-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 1, 2048, 1024]⟩ ⟨4, ![2, 2, 2048, 1024]⟩ (Layout.meshBlock [2, 2] ![[0], [1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x2048x1024 : Shape := ⟨4, ![1, 1, 2048, 1024]⟩
abbrev S2048x1024 : Shape := ⟨2, ![2048, 1024]⟩
abbrev S512x1024 : Shape := ⟨2, ![512, 1024]⟩
abbrev S256x1024 : Shape := ⟨2, ![256, 1024]⟩
abbrev S10 : Shape := ⟨1, ![10]⟩
abbrev S_ : Shape := ⟨0, ![]⟩
abbrev S1 : Shape := ⟨1, ![1]⟩

abbrev nBuf : Space → Nat
  | .hbm => 2
  | .vmem => 6
  | .smem => 0
  | _ => 0

abbrev bufTy : (tb : Table) → Fin (tcTables nBuf tb) → BufTy
  | .hbm, ⟨0, _⟩ => ⟨S1x1x2048x1024, .f32⟩
  | .hbm, ⟨1, _⟩ => ⟨S2048x1024, .f32⟩
  | .local _ .vmem, ⟨0, _⟩ => ⟨S1x1x2048x1024, .f32⟩
  | .local _ .vmem, ⟨1, _⟩ => ⟨S2048x1024, .f32⟩
  | .local _ .vmem, ⟨2, _⟩ => ⟨S512x1024, .f32⟩
  | .local _ .vmem, ⟨3, _⟩ => ⟨S256x1024, .f32⟩
  | .local _ .vmem, ⟨4, _⟩ => ⟨S512x1024, .f32⟩
  | .local _ .vmem, ⟨5, _⟩ => ⟨S256x1024, .f32⟩
  | _, _ => ⟨S1x1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c2_i32_0 : BitVec 32) : Fin 2 → Nat :=
  let c1_i32_23 : BitVec 32 := 1#32
  let v0 : BitVec 32 := Dev.word d0
  let v1 : BitVec 32 := Scalar.divsi v0 c2_i32_0
  let c2_i32 : BitVec 32 := 2#32
  let v2 : BitVec 32 := Scalar.remsi v1 c2_i32
  let v35 : BitVec 32 := Scalar.subi c1_i32_23 v2
  let c256_i32_24 : BitVec 32 := 256#32
  let v36 : BitVec 32 := Scalar.muli v35 c256_i32_24
  let c0_i32_36 : BitVec 32 := 0#32
  ![v36.toNat, 0]
def k0_off2 (d0 : Dev nD) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c512_i32_13 : BitVec 32 := 512#32
  let v19 : BitVec 32 := Scalar.muli v18 c512_i32_13
  let c1_i32_23 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v35 : BitVec 32 := Scalar.subi c1_i32_23 v2
  let c256_i32_24 : BitVec 32 := 256#32
  let v36 : BitVec 32 := Scalar.muli v35 c256_i32_24
  let v41 : BitVec 32 := Scalar.addi v19 v36
  let c0_i32_39 : BitVec 32 := 0#32
  ![v41.toNat, 0]
def k0_dev3 (d0 : Dev nD) : Nat :=
  let c0_i32_34 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_33 : BitVec 32 := 2#32
  let v45 : BitVec 32 := Scalar.muli v2 c2_i32_33
  let v46 : BitVec 32 := Scalar.addi c0_i32_34 v45
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_35 : BitVec 32 := 1#32
  let v47 : BitVec 32 := Scalar.muli v6 c1_i32_35
  let v48 : BitVec 32 := Scalar.addi v46 v47
  v48.toNat
def k0_off3 (d0 : Dev nD) (c2_i32_0 : BitVec 32) : Fin 2 → Nat :=
  let v0 : BitVec 32 := Dev.word d0
  let v1 : BitVec 32 := Scalar.divsi v0 c2_i32_0
  let c2_i32 : BitVec 32 := 2#32
  let v2 : BitVec 32 := Scalar.remsi v1 c2_i32
  let c256_i32_25 : BitVec 32 := 256#32
  let v37 : BitVec 32 := Scalar.muli v2 c256_i32_25
  let c0_i32_47 : BitVec 32 := 0#32
  ![v37.toNat, 0]
def k0_off4 (d0 : Dev nD) : Fin 2 → Nat :=
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v18 : BitVec 32 := Scalar.subi c1_i32_12 v5
  let c512_i32_13 : BitVec 32 := 512#32
  let v19 : BitVec 32 := Scalar.muli v18 c512_i32_13
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32_25 : BitVec 32 := 256#32
  let v37 : BitVec 32 := Scalar.muli v2 c256_i32_25
  let v42 : BitVec 32 := Scalar.addi v19 v37
  let c0_i32_50 : BitVec 32 := 0#32
  ![v42.toNat, 0]
def k0_dev4 (d0 : Dev nD) : Nat :=
  let c0_i32_45 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_44 : BitVec 32 := 2#32
  let v57 : BitVec 32 := Scalar.muli v2 c2_i32_44
  let v58 : BitVec 32 := Scalar.addi c0_i32_45 v57
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_46 : BitVec 32 := 1#32
  let v59 : BitVec 32 := Scalar.muli v6 c1_i32_46
  let v60 : BitVec 32 := Scalar.addi v58 v59
  v60.toNat
def k0_off5 (d0 : Dev nD) : Fin 2 → Nat :=
  let c1024_i32_19 : BitVec 32 := 1024#32
  let c1_i32_17 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v27 : BitVec 32 := Scalar.subi c1_i32_17 v2
  let c512_i32_18 : BitVec 32 := 512#32
  let v28 : BitVec 32 := Scalar.muli v27 c512_i32_18
  let v29 : BitVec 32 := Scalar.addi c1024_i32_19 v28
  let c1_i32_26 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v38 : BitVec 32 := Scalar.subi c1_i32_26 v5
  let c256_i32_27 : BitVec 32 := 256#32
  let v39 : BitVec 32 := Scalar.muli v38 c256_i32_27
  let v43 : BitVec 32 := Scalar.addi v29 v39
  let c0_i32_61 : BitVec 32 := 0#32
  ![v43.toNat, 0]
def k0_dev5 (d0 : Dev nD) : Nat :=
  let c0_i32_56 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_55 : BitVec 32 := 2#32
  let v69 : BitVec 32 := Scalar.muli v7 c2_i32_55
  let v70 : BitVec 32 := Scalar.addi c0_i32_56 v69
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_57 : BitVec 32 := 1#32
  let v71 : BitVec 32 := Scalar.muli v5 c1_i32_57
  let v72 : BitVec 32 := Scalar.addi v70 v71
  v72.toNat
def k0_off6 (d0 : Dev nD) : Fin 2 → Nat :=
  let c1024_i32_19 : BitVec 32 := 1024#32
  let c1_i32_17 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v27 : BitVec 32 := Scalar.subi c1_i32_17 v2
  let c512_i32_18 : BitVec 32 := 512#32
  let v28 : BitVec 32 := Scalar.muli v27 c512_i32_18
  let v29 : BitVec 32 := Scalar.addi c1024_i32_19 v28
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_28 : BitVec 32 := 256#32
  let v40 : BitVec 32 := Scalar.muli v5 c256_i32_28
  let v44 : BitVec 32 := Scalar.addi v29 v40
  let c0_i32_71 : BitVec 32 := 0#32
  ![v44.toNat, 0]
def k0_dev6 (d0 : Dev nD) : Nat :=
  let c0_i32_66 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_65 : BitVec 32 := 2#32
  let v81 : BitVec 32 := Scalar.muli v7 c2_i32_65
  let v82 : BitVec 32 := Scalar.addi c0_i32_66 v81
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v83 : BitVec 32 := Scalar.muli v5 c1_i32_67
  let v84 : BitVec 32 := Scalar.addi v82 v83
  v84.toNat
def k0_off7 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v17 : BitVec 32 := Scalar.muli v5 c512_i32
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v22 : BitVec 32 := Scalar.subi c1_i32_14 v2
  let c256_i32_15 : BitVec 32 := 256#32
  let v23 : BitVec 32 := Scalar.muli v22 c256_i32_15
  let v24 : BitVec 32 := Scalar.addi v17 v23
  let v105 : Index := Scalar.indexCast v24
  let c0 : Index := 0#32
  ![v105.toNat, 0]
def k0_off8 (d0 : Dev nD) (c2_i32_0 : BitVec 32) : Fin 2 → Nat :=
  let c1_i32_23 : BitVec 32 := 1#32
  let v0 : BitVec 32 := Dev.word d0
  let v1 : BitVec 32 := Scalar.divsi v0 c2_i32_0
  let c2_i32 : BitVec 32 := 2#32
  let v2 : BitVec 32 := Scalar.remsi v1 c2_i32
  let v35 : BitVec 32 := Scalar.subi c1_i32_23 v2
  let c256_i32_24 : BitVec 32 := 256#32
  let v36 : BitVec 32 := Scalar.muli v35 c256_i32_24
  let v108 : Index := Scalar.indexCast v36
  let c0_87 : Index := 0#32
  ![v108.toNat, 0]
def k0_off9 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v17 : BitVec 32 := Scalar.muli v5 c512_i32
  let c1_i32_14 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v22 : BitVec 32 := Scalar.subi c1_i32_14 v2
  let c256_i32_15 : BitVec 32 := 256#32
  let v23 : BitVec 32 := Scalar.muli v22 c256_i32_15
  let v24 : BitVec 32 := Scalar.addi v17 v23
  let c0_i32_93 : BitVec 32 := 0#32
  ![v24.toNat, 0]
def k0_dev7 (d0 : Dev nD) : Nat :=
  let c0_i32_91 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_90 : BitVec 32 := 2#32
  let v113 : BitVec 32 := Scalar.muli v7 c2_i32_90
  let v114 : BitVec 32 := Scalar.addi c0_i32_91 v113
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v115 : BitVec 32 := Scalar.muli v5 c1_i32_92
  let v116 : BitVec 32 := Scalar.addi v114 v115
  v116.toNat
def k0_off10 (d0 : Dev nD) : Fin 2 → Nat :=
  let c1024_i32 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_16 : BitVec 32 := 512#32
  let v25 : BitVec 32 := Scalar.muli v2 c512_i32_16
  let v26 : BitVec 32 := Scalar.addi c1024_i32 v25
  let c1_i32_21 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v32 : BitVec 32 := Scalar.subi c1_i32_21 v5
  let c256_i32_22 : BitVec 32 := 256#32
  let v33 : BitVec 32 := Scalar.muli v32 c256_i32_22
  let v34 : BitVec 32 := Scalar.addi v26 v33
  let v134 : Index := Scalar.indexCast v34
  let c0_109 : Index := 0#32
  ![v134.toNat, 0]
def k0_off11 (d0 : Dev nD) : Fin 2 → Nat :=
  let c1024_i32 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_16 : BitVec 32 := 512#32
  let v25 : BitVec 32 := Scalar.muli v2 c512_i32_16
  let v26 : BitVec 32 := Scalar.addi c1024_i32 v25
  let c1_i32_21 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v32 : BitVec 32 := Scalar.subi c1_i32_21 v5
  let c256_i32_22 : BitVec 32 := 256#32
  let v33 : BitVec 32 := Scalar.muli v32 c256_i32_22
  let v34 : BitVec 32 := Scalar.addi v26 v33
  let c0_i32_116 : BitVec 32 := 0#32
  ![v34.toNat, 0]
def k0_dev8 (d0 : Dev nD) : Nat :=
  let c0_i32_114 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_113 : BitVec 32 := 2#32
  let v142 : BitVec 32 := Scalar.muli v2 c2_i32_113
  let v143 : BitVec 32 := Scalar.addi c0_i32_114 v142
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_115 : BitVec 32 := 1#32
  let v144 : BitVec 32 := Scalar.muli v6 c1_i32_115
  let v145 : BitVec 32 := Scalar.addi v143 v144
  v145.toNat
def k0_off12 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v17 : BitVec 32 := Scalar.muli v5 c512_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v20 : BitVec 32 := Scalar.muli v2 c256_i32
  let v21 : BitVec 32 := Scalar.addi v17 v20
  let v163 : Index := Scalar.indexCast v21
  let c0_132 : Index := 0#32
  ![v163.toNat, 0]
def k0_off13 (d0 : Dev nD) (c2_i32_0 : BitVec 32) : Fin 2 → Nat :=
  let v0 : BitVec 32 := Dev.word d0
  let v1 : BitVec 32 := Scalar.divsi v0 c2_i32_0
  let c2_i32 : BitVec 32 := 2#32
  let v2 : BitVec 32 := Scalar.remsi v1 c2_i32
  let c256_i32_25 : BitVec 32 := 256#32
  let v37 : BitVec 32 := Scalar.muli v2 c256_i32_25
  let v166 : Index := Scalar.indexCast v37
  let c0_133 : Index := 0#32
  ![v166.toNat, 0]
def k0_off14 (d0 : Dev nD) : Fin 2 → Nat :=
  let c1024_i32 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_16 : BitVec 32 := 512#32
  let v25 : BitVec 32 := Scalar.muli v2 c512_i32_16
  let v26 : BitVec 32 := Scalar.addi c1024_i32 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_20 : BitVec 32 := 256#32
  let v30 : BitVec 32 := Scalar.muli v5 c256_i32_20
  let v31 : BitVec 32 := Scalar.addi v26 v30
  let v183 : Index := Scalar.indexCast v31
  let c0_150 : Index := 0#32
  ![v183.toNat, 0]
def k0_off15 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v17 : BitVec 32 := Scalar.muli v5 c512_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v20 : BitVec 32 := Scalar.muli v2 c256_i32
  let v21 : BitVec 32 := Scalar.addi v17 v20
  let c0_i32_167 : BitVec 32 := 0#32
  ![v21.toNat, 0]
def k0_dev9 (d0 : Dev nD) : Nat :=
  let c0_i32_165 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_164 : BitVec 32 := 2#32
  let v205 : BitVec 32 := Scalar.muli v7 c2_i32_164
  let v206 : BitVec 32 := Scalar.addi c0_i32_165 v205
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_166 : BitVec 32 := 1#32
  let v207 : BitVec 32 := Scalar.muli v5 c1_i32_166
  let v208 : BitVec 32 := Scalar.addi v206 v207
  v208.toNat
def k0_off16 (d0 : Dev nD) : Fin 2 → Nat :=
  let c1024_i32 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_16 : BitVec 32 := 512#32
  let v25 : BitVec 32 := Scalar.muli v2 c512_i32_16
  let v26 : BitVec 32 := Scalar.addi c1024_i32 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c256_i32_20 : BitVec 32 := 256#32
  let v30 : BitVec 32 := Scalar.muli v5 c256_i32_20
  let v31 : BitVec 32 := Scalar.addi v26 v30
  let c0_i32_183 : BitVec 32 := 0#32
  ![v31.toNat, 0]
def k0_dev10 (d0 : Dev nD) : Nat :=
  let c0_i32_181 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_180 : BitVec 32 := 2#32
  let v229 : BitVec 32 := Scalar.muli v2 c2_i32_180
  let v230 : BitVec 32 := Scalar.addi c0_i32_181 v229
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_182 : BitVec 32 := 1#32
  let v231 : BitVec 32 := Scalar.muli v6 c1_i32_182
  let v232 : BitVec 32 := Scalar.addi v230 v231
  v232.toNat
def k0_off17 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v17 : BitVec 32 := Scalar.muli v5 c512_i32
  let c0_i32_196 : BitVec 32 := 0#32
  ![v17.toNat, 0]
def k0_dev11 (d0 : Dev nD) : Nat :=
  let c0_i32_194 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_193 : BitVec 32 := 2#32
  let v247 : BitVec 32 := Scalar.muli v2 c2_i32_193
  let v248 : BitVec 32 := Scalar.addi c0_i32_194 v247
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_195 : BitVec 32 := 1#32
  let v249 : BitVec 32 := Scalar.muli v6 c1_i32_195
  let v250 : BitVec 32 := Scalar.addi v248 v249
  v250.toNat
def k0_off18 (d0 : Dev nD) : Fin 2 → Nat :=
  let c1024_i32 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_16 : BitVec 32 := 512#32
  let v25 : BitVec 32 := Scalar.muli v2 c512_i32_16
  let v26 : BitVec 32 := Scalar.addi c1024_i32 v25
  let c0_i32_209 : BitVec 32 := 0#32
  ![v26.toNat, 0]
def k0_dev12 (d0 : Dev nD) : Nat :=
  let c0_i32_207 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_206 : BitVec 32 := 2#32
  let v265 : BitVec 32 := Scalar.muli v7 c2_i32_206
  let v266 : BitVec 32 := Scalar.addi c0_i32_207 v265
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_208 : BitVec 32 := 1#32
  let v267 : BitVec 32 := Scalar.muli v5 c1_i32_208
  let v268 : BitVec 32 := Scalar.addi v266 v267
  v268.toNat
abbrev stage0_0 : Fin 1 → Memref sig .tc .vmem S1x1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2x2048x1024 : Shape := ⟨4, ![2, 2, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2x2048x1024, .f32⟩
  | .hbm, ⟨1, _⟩ => ⟨S_, .f32⟩
  | .hbm, ⟨2, _⟩ => ⟨S2048x1024, .f32⟩
  | _, _ => ⟨S2x2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.OnKernelIdeal.Geometry.lean ====
/-
The two-by-two mesh, the windows the body addresses, and reading and writing through them.

Device `c` stands at `(x, y) = (c / 2, c % 2)`. Its neighbour along the second mesh axis is `yN c`, along the
first `xN c`. Every window the body addresses is a band of whole rows, so a window's elements are `rows lo n`, the
indices whose row lies in `[lo, lo + n)`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.ValueLayout
public import Idealize.ShloMosaic.Lib.Tactic

@[expose] public section

noncomputable section

namespace Cert.KernelIdeal.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The mesh -/

/-- The neighbour along the second mesh axis. -/
def yN (c : Dev nD) : Dev nD := ⟨(2 * (c.val / 2) + 1) - c.val % 2, by have := c.isLt; have : nD = 4 := rfl; omega⟩
/-- The neighbour along the first mesh axis. -/
def xN (c : Dev nD) : Dev nD := ⟨(c.val % 2 + 2) - 2 * (c.val / 2), by have := c.isLt; have : nD = 4 := rfl; omega⟩

theorem yN_yN (c : Dev nD) : yN (yN c) = c := by revert c; decide
theorem xN_xN (c : Dev nD) : xN (xN c) = c := by revert c; decide
theorem yN_ne (c : Dev nD) : yN c ≠ c := by revert c; decide
theorem xN_ne (c : Dev nD) : xN c ≠ c := by revert c; decide
theorem xN_yN (c : Dev nD) : xN (yN c) = yN (xN c) := by revert c; decide

/-- Whom transfer `k` goes to (and comes from). -/
def peer (k : Fin 10) (c : Dev nD) : Dev nD :=
  match k with
  | 0 => yN c | 1 => yN c | 2 => xN c | 3 => xN c | 4 => xN c
  | 5 => yN c | 6 => xN c | 7 => yN c | 8 => yN c | 9 => xN c

theorem peer_peer (k : Fin 10) (c : Dev nD) : peer k (peer k c) = c := by revert k c; decide

/-- First rows of the bands of the two halves: `qa` of the 256 rows of the upper half that device `c` finishes,
    `qap` of those it passes on; `qb`, `qbp` the same in the lower half; `ha`, `hb` the 512 rows of each half it
    holds in the end phase, `hap`, `hbp` the other 512. -/
def qa (c : Dev nD) : ℕ := 512 * (c.val % 2) + 256 * (c.val / 2)
def qap (c : Dev nD) : ℕ := (512 * (c.val % 2) + 256) - 256 * (c.val / 2)
def qb (c : Dev nD) : ℕ := 512 * (c.val / 2) + 256 * (c.val % 2) + 1024
def qbp (c : Dev nD) : ℕ := (512 * (c.val / 2) + 1280) - 256 * (c.val % 2)
def ha (c : Dev nD) : ℕ := 512 * (c.val % 2)
def hb (c : Dev nD) : ℕ := 512 * (c.val / 2) + 1024
def hap (c : Dev nD) : ℕ := 512 - 512 * (c.val % 2)
def hbp (c : Dev nD) : ℕ := 1536 - 512 * (c.val / 2)
/-- First rows of the two bands of each landing buffer: that the peer passes on, and that it finishes. -/
def fa (c : Dev nD) : ℕ := 256 - 256 * (c.val / 2)
def sa (c : Dev nD) : ℕ := 256 * (c.val / 2)
def fb (c : Dev nD) : ℕ := 256 - 256 * (c.val % 2)
def sb (c : Dev nD) : ℕ := 256 * (c.val % 2)

/-! ## Bands of rows -/

/-- The indices of an array of 1024 columns whose row lies in `[lo, lo + n)`. -/
def rows {N : ℕ} (lo n : ℕ) : Finset (⟨2, ![N, 1024]⟩ : Shape).Idx :=
  Finset.univ.filter fun i => lo ≤ (i 0).val ∧ (i 0).val < lo + n

theorem mem_rows {N : ℕ} {lo n : ℕ} {i : (⟨2, ![N, 1024]⟩ : Shape).Idx} :
    i ∈ rows lo n ↔ lo ≤ (i 0).val ∧ (i 0).val < lo + n := by
  unfold rows; rw [Finset.mem_filter]; exact ⟨fun h => h.2, fun h => ⟨Finset.mem_univ _, h⟩⟩

theorem rows_all {N : ℕ} : (rows 0 N : Finset (⟨2, ![N, 1024]⟩ : Shape).Idx) = Finset.univ := by
  ext i; rw [mem_rows]; exact ⟨fun _ => Finset.mem_univ _, fun _ => ⟨Nat.zero_le _, by have := (i 0).isLt; rw [Nat.zero_add]; exact this⟩⟩

theorem rows_disjoint {N lo lo' n n' : ℕ} (h : lo + n ≤ lo' ∨ lo' + n' ≤ lo) :
    Disjoint (rows lo n : Finset (⟨2, ![N, 1024]⟩ : Shape).Idx) (rows lo' n') := by
  rw [Finset.disjoint_left]; intro i hi hj; rw [mem_rows] at hi hj; omega

theorem rows_union {N lo n lo' n' lo'' n'' : ℕ}
    (h : (lo = lo'' ∧ lo' = lo + n ∨ lo' = lo'' ∧ lo = lo' + n') ∧ n'' = n + n') :
    (rows lo n ∪ rows lo' n' : Finset (⟨2, ![N, 1024]⟩ : Shape).Idx) = rows lo'' n'' := by
  ext i; rw [Finset.mem_union, mem_rows, mem_rows, mem_rows]; omega

theorem rect_rows {N n lo : ℕ} {off : Fin 2 → ℕ} {inb} (h : off = ![lo, 0]) :
    (Rect.unit (s := ⟨2, ![N, 1024]⟩) off ![n, 1024] inb).set = rows lo n := by
  subst h; ext i; rw [Rect.mem_set_unit, mem_rows]
  constructor
  · intro h; exact h 0
  · intro h a
    match a with
    | 0 => exact h
    | 1 => exact ⟨Nat.zero_le _, by have := (i 1).isLt; show (i 1).val < 0 + 1024; rw [Nat.zero_add]; exact this⟩

/-- An array given by its entries as a function of row and column. -/
def tab {N : ℕ} {α : Type} (g : ℕ → ℕ → α) : (⟨2, ![N, 1024]⟩ : Shape).Idx → α := fun i => g (i 0).val (i 1).val

/-! ## The buffers and their windows -/

abbrev xM : Memref sig .tc .vmem S1x1x2048x1024 .f32 := Memref.whole cc0_stg0_0
abbrev oM : Memref sig .tc .vmem S2048x1024 .f32 := Memref.whole cc0_stg1_0
abbrev aM : Memref sig .tc .vmem S512x1024 .f32 := Memref.whole cc0_scratch0
abbrev a1M : Memref sig .tc .vmem S256x1024 .f32 := Memref.whole cc0_scratch1
abbrev bM : Memref sig .tc .vmem S512x1024 .f32 := Memref.whole cc0_scratch2
abbrev b1M : Memref sig .tc .vmem S256x1024 .f32 := Memref.whole cc0_scratch3

/-- The operand without its two axes of one element. -/
abbrev xS : Memref sig .tc .vmem S2048x1024 .f32 :=
  (xM.slice (Rect.unit (s := S1x1x2048x1024) ![0, 0, 0, 0] S1x1x2048x1024.size inb_S1x1x2048x1024_S1x1x2048x1024_0_0_0_0) (fun _ => rfl)).squeeze
    S2048x1024 squeezes_S1x1x2048x1024_S2048x1024

abbrev xW (off : Fin 2 → ℕ) (inb : ∀ a, off a + S256x1024.size a ≤ S2048x1024.size a) : Memref sig .tc .vmem S256x1024 .f32 :=
  xS.slice (Rect.unit (s := S2048x1024) off S256x1024.size inb) (fun _ => rfl)
abbrev oW (off : Fin 2 → ℕ) (inb : ∀ a, off a + S256x1024.size a ≤ S2048x1024.size a) : Memref sig .tc .vmem S256x1024 .f32 :=
  oM.slice (Rect.unit (s := S2048x1024) off S256x1024.size inb) (fun _ => rfl)
abbrev oH (off : Fin 2 → ℕ) (inb : ∀ a, off a + S512x1024.size a ≤ S2048x1024.size a) : Memref sig .tc .vmem S512x1024 .f32 :=
  oM.slice (Rect.unit (s := S2048x1024) off S512x1024.size inb) (fun _ => rfl)
abbrev aW (off : Fin 2 → ℕ) (inb : ∀ a, off a + S256x1024.size a ≤ S512x1024.size a) : Memref sig .tc .vmem S256x1024 .f32 :=
  aM.slice (Rect.unit (s := S512x1024) off S256x1024.size inb) (fun _ => rfl)
abbrev bW (off : Fin 2 → ℕ) (inb : ∀ a, off a + S256x1024.size a ≤ S512x1024.size a) : Memref sig .tc .vmem S256x1024 .f32 :=
  bM.slice (Rect.unit (s := S512x1024) off S256x1024.size inb) (fun _ => rfl)

section Windows
variable {off : Fin 2 → ℕ} {lo : ℕ} (h : off = ![lo, 0])
include h

theorem oW_set {inb} : (oW off inb).view.set = rows lo 256 := (View.set_slice_whole _ _).trans (rect_rows h)
theorem oH_set {inb} : (oH off inb).view.set = rows lo 512 := (View.set_slice_whole _ _).trans (rect_rows h)
theorem aW_set {inb} : (aW off inb).view.set = rows lo 256 := (View.set_slice_whole _ _).trans (rect_rows h)
theorem bW_set {inb} : (bW off inb).view.set = rows lo 256 := (View.set_slice_whole _ _).trans (rect_rows h)

/-- A unit-stride window of whole rows, placed. -/
theorem tab_emb {N n : ℕ} {α : Type} {inb} (g : ℕ → ℕ → α) (j : (⟨2, ![n, 1024]⟩ : Shape).Idx) :
    tab g ((Rect.unit (s := ⟨2, ![N, 1024]⟩) off ![n, 1024] inb).emb j) = g (lo + (j 0).val) (j 1).val := by
  unfold tab
  rw [ValueKit.rect_emb_unit_val, ValueKit.rect_emb_unit_val]; subst h
  show g (lo + (j 0).val) (0 + (j 1).val) = _
  rw [Nat.zero_add]

theorem oW_read {inb} (g : ℕ → ℕ → F .f32) :
    (oW off inb).view.read (Elt F) (tab g : S2048x1024.Idx → F .f32) = tab (fun r l => g (lo + r) l) :=
  funext fun j => tab_emb (N := 2048) (n := 256) h g j
theorem oH_read {inb} (g : ℕ → ℕ → F .f32) :
    (oH off inb).view.read (Elt F) (tab g : S2048x1024.Idx → F .f32) = tab (fun r l => g (lo + r) l) :=
  funext fun j => tab_emb (N := 2048) (n := 512) h g j
theorem aW_read {inb} (g : ℕ → ℕ → F .f32) :
    (aW off inb).view.read (Elt F) (tab g : S512x1024.Idx → F .f32) = tab (fun r l => g (lo + r) l) :=
  funext fun j => tab_emb (N := 512) (n := 256) h g j
theorem bW_read {inb} (g : ℕ → ℕ → F .f32) :
    (bW off inb).view.read (Elt F) (tab g : S512x1024.Idx → F .f32) = tab (fun r l => g (lo + r) l) :=
  funext fun j => tab_emb (N := 512) (n := 256) h g j

theorem xW_read {inb} (X : S1x1x2048x1024.Idx → F .f32) (j : S256x1024.Idx) :
    (xW off inb).view.read (Elt F) X j
      = X (ix4 (⟨0, Nat.one_pos⟩ : Fin 1) (⟨0, Nat.one_pos⟩ : Fin 1)
          (⟨(lo + (j 0).val) % 2048, Nat.mod_lt _ (by decide)⟩ : Fin 2048) (⟨(j 1).val % 1024, Nat.mod_lt _ (by decide)⟩ : Fin 1024)) := by
  subst h
  rw [View.read_apply]
  show X _ = X _
  refine congrArg X ?_
  have hj0 : (j 0).val < 256 := (j 0).isLt
  have hj1 : (j 1).val < 1024 := (j 1).isLt
  have hlo : lo + 256 ≤ 2048 := inb 0
  have key : (Rect.unit (s := S2048x1024) ![lo, 0] S256x1024.size inb).emb j
      = ix2 (⟨(lo + (j 0).val) % 2048, Nat.mod_lt _ (by decide)⟩ : Fin 2048) (⟨(j 1).val % 1024, Nat.mod_lt _ (by decide)⟩ : Fin 1024) := by
    funext a
    match a with
    | 0 => refine Fin.ext ?_; rw [ValueKit.rect_emb_unit_val]; show lo + (j 0).val = (lo + (j 0).val) % 2048; omega
    | 1 => refine Fin.ext ?_; rw [ValueKit.rect_emb_unit_val]; show 0 + (j 1).val = (j 1).val % 1024; omega
  show (Rect.unit (s := S1x1x2048x1024) ![0, 0, 0, 0] S1x1x2048x1024.size inb_S1x1x2048x1024_S1x1x2048x1024_0_0_0_0).emb
    (Shape.reshapeEquiv _ ((Rect.unit (s := S2048x1024) ![lo, 0] S256x1024.size inb).emb j)) = _
  rw [key]
  erw [reshapeEquiv_ix2_11ab]
  funext a
  refine Fin.ext ?_
  rw [ValueKit.rect_emb_unit_val]
  match a with
  | 0 => rfl
  | 1 => rfl
  | 2 => exact Nat.zero_add _
  | 3 => exact Nat.zero_add _

end Windows

end Cert.KernelIdeal.Exchange
-- ==== Proof.OnKernelIdeal.Schedule.lean ====
/-
What the exchange computes, and its protocol: the cells, who owes them what, and what each credit hands over.

Every device has one barrier cell, ten send cells and ten receive cells, each used for one round. At the barrier a
device hands each neighbour the buffers that neighbour will write into on it. Transfers 0 to 3 carry bands of the
operand into the neighbours' landing buffers, 4 and 5 carry half-summed bands and with them the band of the result
they were read from (the neighbour later writes the finished band there), 6 to 9 carry finished bands of the result.
-/
module

public import proofs.«01_k».proof.Proof.OnKernelIdeal.Geometry

@[expose] public section

noncomputable section

namespace Cert.KernelIdeal.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's share of the resource algebra, its duties named by booleans, beside the pipeline library's. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- Device `c`'s block of the operand. -/
def xstg (c : Dev nD) : (cc0_stg0_0 : Ref sig .tc).ty.Contents (Elt F) :=
  (win0_0.blk (0 : Fin 1)).view.read (Elt F) ((s₀ m ρ).mem ((c : Thread nD τ).loc main_arg0))

/-- Its entries by row and column. -/
def xr (c : Dev nD) (r l : ℕ) : F .f32 :=
  (xstg m ρ c : S1x1x2048x1024.Idx → F .f32) (ix4 (⟨0, Nat.one_pos⟩ : Fin 1) (⟨0, Nat.one_pos⟩ : Fin 1)
    (⟨r % 2048, Nat.mod_lt _ (by decide)⟩ : Fin 2048) (⟨l % 1024, Nat.mod_lt _ (by decide)⟩ : Fin 1024))

/-- Sum of two float values. -/
abbrev add2 (a b : F .f32) : F .f32 := FloatOps.addf a b

/-- What lands in the two buffers of the first exchange. -/
def gA (c : Dev nD) (r l : ℕ) : F .f32 := xr m ρ (yN c) (ha c + r) l
def gB (c : Dev nD) (r l : ℕ) : F .f32 := xr m ρ (xN c) (hb c + r) l

/-- The sum of two devices' entries: along the second axis in the upper half, along the first in the lower. -/
def part (c : Dev nD) (r l : ℕ) : F .f32 :=
  if r < 1024 then add2 (xr m ρ c r l) (xr m ρ (yN c) r l) else add2 (xr m ρ c r l) (xr m ρ (xN c) r l)

/-- What lands in the two buffers of the second exchange. -/
def gA1 (c : Dev nD) (r l : ℕ) : F .f32 := part m ρ (xN c) (qa c + r) l
def gB1 (c : Dev nD) (r l : ℕ) : F .f32 := part m ρ (yN c) (qb c + r) l

/-- The device that finishes row `r`. -/
def ownr (r : ℕ) : Dev nD :=
  ⟨(if r < 1024 then 2 * (r % 512 / 256) + r / 512 else 2 * ((r - 1024) / 512) + r % 512 / 256) % 4, Nat.mod_lt _ (by decide)⟩

/-- The result: the sum over the four devices, in the order the device that finishes the row adds. -/
def fin (r l : ℕ) : F .f32 :=
  if r < 1024 then add2 (part m ρ (ownr r) r l) (part m ρ (xN (ownr r)) r l)
  else add2 (part m ρ (ownr r) r l) (part m ρ (yN (ownr r)) r l)

/-! ## The cells -/

abbrev barS : Sem sig := (SemArray.scalar (sig.barrier 0 rfl) : Sems sig S_).sem
def sS (k : Fin 10) : DmaSem sig := ⟨2 + k.val, by have := k.isLt; show 2 + k.val < 22; omega⟩
def rS (k : Fin 10) : DmaSem sig := ⟨12 + k.val, by have := k.isLt; show 12 + k.val < 22; omega⟩

abbrev bcell (c : Dev nD) : GSem nD τ sig := ((c : Thread nD τ), .reg barS)
abbrev scell (c : Dev nD) (k : Fin 10) : GSem nD τ sig := ((c : Thread nD τ), .dma (sS k))
abbrev rcell (c : Dev nD) (k : Fin 10) : GSem nD τ sig := ((c : Thread nD τ), .dma (rS k))

/-- The kernel's own semaphores, as the launch indexes them. -/
abbrev osem (i : Fin 20) : SemLoc sig := .dma ⟨2 + i.val, by have := i.isLt; show 2 + i.val < 22; omega⟩
/-- All cells of a device: the barrier, then the own semaphores. -/
abbrev csem (j : Fin 21) : SemLoc sig :=
  if h : j.val = 0 then .reg barS else .dma ⟨1 + j.val, by have := j.isLt; show 1 + j.val < 22; omega⟩
abbrev kcell (cj : Dev nD × Fin 21) : GSem nD τ sig := ((cj.1 : Thread nD τ), csem cj.2)

def jS (k : Fin 10) : Fin 21 := ⟨1 + k.val, by omega⟩
def jR (k : Fin 10) : Fin 21 := ⟨11 + k.val, by omega⟩

theorem csem_S (k : Fin 10) : csem (jS k) = .dma (sS k) := by revert k; decide
theorem csem_R (k : Fin 10) : csem (jR k) = .dma (rS k) := by revert k; decide
theorem kcell_S (c : Dev nD) (k : Fin 10) : kcell (c, jS k) = scell c k := by show (_, _) = (_, _); rw [csem_S]
theorem kcell_R (c : Dev nD) (k : Fin 10) : kcell (c, jR k) = rcell c k := by show (_, _) = (_, _); rw [csem_R]
theorem kcell_B (c : Dev nD) : kcell (c, 0) = bcell c := rfl

/-- The credit of transfer `k`. -/
def amt (k : Fin 10) : ℕ := if k.val < 8 then 32768 else 65536

/-! ## What each credit hands over -/

abbrev xL (c : Dev nD) : Loc nD τ sig := (c : Thread nD τ).loc cc0_stg0_0
abbrev oL (c : Dev nD) : Loc nD τ sig := (c : Thread nD τ).loc cc0_stg1_0
abbrev aL (c : Dev nD) : Loc nD τ sig := (c : Thread nD τ).loc cc0_scratch0
abbrev a1L (c : Dev nD) : Loc nD τ sig := (c : Thread nD τ).loc cc0_scratch1
abbrev bL (c : Dev nD) : Loc nD τ sig := (c : Thread nD τ).loc cc0_scratch2
abbrev b1L (c : Dev nD) : Loc nD τ sig := (c : Thread nD τ).loc cc0_scratch3

/-- A band of device `c`'s result buffer, at a table. -/
abbrev oPts (c : Dev nD) (lo n : ℕ) (q : PosShare TreeShare) (g : ℕ → ℕ → F .f32) : sProp 𝕄 :=
  oL c ↦[(rows lo n : Finset S2048x1024.Idx)]{q} (tab g : S2048x1024.Idx → F .f32)
/-- The same at any contents. -/
abbrev oAny (c : Dev nD) (lo n : ℕ) : sProp 𝕄 := iprop(∃ f, oL c ↦[(rows lo n : Finset S2048x1024.Idx)]{fullShare} f)

/-- The shares of the operand that the first four transfers read at; the body's loads read at `xq0`. -/
abbrev xq0 : PosShare TreeShare := fullShare.left
def xq (k : Fin 4) : PosShare TreeShare :=
  match k with
  | 0 => fullShare.right.left | 1 => fullShare.right.right.left
  | 2 => fullShare.right.right.right.left | 3 => fullShare.right.right.right.right

/-- The bands of the operand that the first four transfers read. -/
def xset (c : Dev nD) (k : Fin 4) : Finset S1x1x2048x1024.Idx :=
  match k with
  | 0 => (xW (k0_off2 c) (k0_off2_inb c)).view.set | 1 => (xW (k0_off4 c) (k0_off4_inb c)).view.set
  | 2 => (xW (k0_off5 c) (k0_off5_inb c)).view.set | 3 => (xW (k0_off6 c) (k0_off6_inb c)).view.set

abbrev xPart (c : Dev nD) (k : Fin 4) : sProp 𝕄 := xL c ↦[xset c k]{xq k} xstg m ρ c

/-- What a device's arrival at a barrier hands the device waiting there: duty `false` is the neighbour along the
    second axis, `true` the one along the first. -/
def barPay (c : Dev nD) (d : Bool) : sProp 𝕄 :=
  match d with
  | false => iprop((∃ f, aL (yN c) ↦{fullShare} f) ∗ (∃ f, b1L (yN c) ↦{fullShare} f) ∗ oAny (yN c) (ha c) 512)
  | true => iprop((∃ f, bL (xN c) ↦{fullShare} f) ∗ (∃ f, a1L (xN c) ↦{fullShare} f) ∗ oAny (xN c) (hb c) 512)

/-- What transfer `k` hands its sender back. -/
def sPay (c : Dev nD) (k : Fin 10) : sProp 𝕄 :=
  match k with
  | 0 => xPart m ρ c 0 | 1 => xPart m ρ c 1 | 2 => xPart m ρ c 2 | 3 => xPart m ρ c 3
  | 4 => iprop(emp) | 5 => iprop(emp)
  | 6 => oPts c (qa c) 256 fullShare.left (fin m ρ) | 7 => oPts c (qb c) 256 fullShare.left (fin m ρ)
  | 8 => oPts c (ha c) 512 fullShare.right (fin m ρ) | 9 => oPts c (hb c) 512 fullShare.right (fin m ρ)

/-- What transfer `k` hands its receiver. -/
def rPay (c : Dev nD) (k : Fin 10) : sProp 𝕄 :=
  match k with
  | 0 => aL c ↦[(rows (fa c) 256 : Finset S512x1024.Idx)]{fullShare} (tab (gA m ρ c) : S512x1024.Idx → F .f32)
  | 1 => aL c ↦[(rows (sa c) 256 : Finset S512x1024.Idx)]{fullShare} (tab (gA m ρ c) : S512x1024.Idx → F .f32)
  | 2 => bL c ↦[(rows (fb c) 256 : Finset S512x1024.Idx)]{fullShare} (tab (gB m ρ c) : S512x1024.Idx → F .f32)
  | 3 => bL c ↦[(rows (sb c) 256 : Finset S512x1024.Idx)]{fullShare} (tab (gB m ρ c) : S512x1024.Idx → F .f32)
  | 4 => iprop((a1L c ↦{fullShare} (tab (gA1 m ρ c) : S256x1024.Idx → F .f32)) ∗ oAny (xN c) (qa c) 256)
  | 5 => iprop((b1L c ↦{fullShare} (tab (gB1 m ρ c) : S256x1024.Idx → F .f32)) ∗ oAny (yN c) (qb c) 256)
  | 6 => oPts c (qap c) 256 fullShare (fin m ρ) | 7 => oPts c (qbp c) 256 fullShare (fin m ρ)
  | 8 => oPts c (hap c) 512 fullShare (fin m ρ) | 9 => oPts c (hbp c) 512 fullShare (fin m ρ)

instance barPay_storable (c : Dev nD) (d : Bool) : BI.Storable (upEmb : UEmb _ 𝕄) (barPay (F := F) c d) := by
  unfold barPay; split <;> infer_instance
instance sPay_storable (c : Dev nD) (k : Fin 10) : BI.Storable (upEmb : UEmb _ 𝕄) (sPay m ρ c k) := by
  unfold sPay; split <;> infer_instance
instance rPay_storable (c : Dev nD) (k : Fin 10) : BI.Storable (upEmb : UEmb _ 𝕄) (rPay m ρ c k) := by
  unfold rPay; split <;> infer_instance

/-- The transfer that the `n`-th of ten cells belongs to. -/
def idx (n : ℕ) : Fin 10 := ⟨n % 10, Nat.mod_lt _ (by decide)⟩

/-! ## The schedule -/

/-- One round, round 0: a barrier cell has two duties of one unit each, a send or receive cell the duty `false` of its
    transfer's credit. -/
def Rd : Rounds.Schedule (GSem nD τ sig) Bool 𝕄 where
  duties g r := if r = 0 ∧ g.1.2 = .tc then (match g.2 with
    | .reg s => if s = barS then Finset.univ else ∅
    | .dma q => if 2 ≤ q.val then {false} else ∅) else ∅
  unitless _ := False
  amount g _ _ := match g.2 with
    | .reg _ => 1
    | .dma q => amt (idx (q.val + 8))
  payload g _ d := match g.2 with
    | .reg _ => barPay g.1.1 d
    | .dma q => if q.val < 12 then sPay m ρ g.1.1 (idx (q.val + 8)) else rPay m ρ g.1.1 (idx (q.val + 8))
  amount_pos g _ _ _ := by
    obtain ⟨_, s⟩ := g
    cases s with
    | reg _ => exact Nat.one_pos
    | dma q => show 0 < amt _; unfold amt; split <;> decide

instance Rd_payload_storable (g : GSem nD τ sig) (r : ℕ) (d : Bool) :
    BI.Storable (upEmb : UEmb _ 𝕄) ((Rd m ρ).payload g r d) := by
  obtain ⟨t, s⟩ := g
  cases s with
  | reg _ => show BI.Storable upEmb (barPay t.1 d); infer_instance
  | dma q =>
    show BI.Storable upEmb (if q.val < 12 then sPay m ρ t.1 (idx (q.val + 8)) else rPay m ρ t.1 (idx (q.val + 8)))
    split <;> infer_instance

theorem idx_S (k : Fin 10) : idx ((sS k).val + 8) = k := by revert k; decide
theorem idx_R (k : Fin 10) : idx ((rS k).val + 8) = k := by revert k; decide
theorem sS_le (k : Fin 10) : 2 ≤ (sS k).val := by revert k; decide
theorem rS_le (k : Fin 10) : 2 ≤ (rS k).val := by revert k; decide
theorem sS_lt (k : Fin 10) : (sS k).val < 12 := by revert k; decide
theorem rS_lt (k : Fin 10) : ¬ (rS k).val < 12 := by revert k; decide

section Sched
variable (c : Dev nD) (k : Fin 10)

theorem duties_B : (Rd m ρ).duties (bcell c) 0 = Finset.univ := by
  dsimp only [Rd]; rw [if_pos ⟨rfl, rfl⟩]; exact if_pos rfl
theorem duties_S : (Rd m ρ).duties (scell c k) 0 = {false} := by
  dsimp only [Rd]; rw [if_pos ⟨rfl, rfl⟩]; exact if_pos (sS_le k)
theorem duties_R : (Rd m ρ).duties (rcell c k) 0 = {false} := by
  dsimp only [Rd]; rw [if_pos ⟨rfl, rfl⟩]; exact if_pos (rS_le k)
theorem duties_later (g : GSem nD τ sig) : ∀ r, 1 ≤ r → (Rd m ρ).duties g r = ∅ :=
  fun r hr => by dsimp only [Rd]; exact if_neg fun h => by omega

theorem amount_B (d : Bool) : (Rd m ρ).amount (bcell c) 0 d = 1 := rfl
theorem amount_S (d : Bool) : (Rd m ρ).amount (scell c k) 0 d = amt k := congrArg amt (idx_S k)
theorem amount_R (d : Bool) : (Rd m ρ).amount (rcell c k) 0 d = amt k := congrArg amt (idx_R k)

theorem expect_B : (Rd m ρ).expect (bcell c) 0 = 2 := by
  unfold Schedule.expect Schedule.amountOf
  rw [duties_B, Finset.sum_congr rfl fun d _ => amount_B m ρ c d, Finset.sum_const, Finset.card_univ, Fintype.card_bool, smul_eq_mul]
theorem expect_S : (Rd m ρ).expect (scell c k) 0 = amt k := by
  unfold Schedule.expect Schedule.amountOf; rw [duties_S, Finset.sum_singleton, amount_S]
theorem expect_R : (Rd m ρ).expect (rcell c k) 0 = amt k := by
  unfold Schedule.expect Schedule.amountOf; rw [duties_R, Finset.sum_singleton, amount_R]

theorem payload_B (d : Bool) : (Rd m ρ).payload (bcell c) 0 d = barPay c d := rfl
theorem payload_S (d : Bool) : (Rd m ρ).payload (scell c k) 0 d = sPay m ρ c k := by
  dsimp only [Rd]; rw [if_pos (sS_lt k), idx_S]
theorem payload_R (d : Bool) : (Rd m ρ).payload (rcell c k) 0 d = rPay m ρ c k := by
  dsimp only [Rd]; rw [if_neg (rS_lt k), idx_R]

theorem rest_B : bigSep ((Rd m ρ).duties (bcell c) 0 \ ∅) (fun d => (Rd m ρ).payload (bcell c) 0 d)
    = iprop(barPay c false ∗ barPay c true) := by
  rw [Finset.sdiff_empty, duties_B, bigSep_univ_eq_bigSepL [false, true] (by decide) (by decide), bigSepL_cons_cons, bigSepL_singleton,
    payload_B, payload_B]
  rfl
theorem rest_S : bigSep ((Rd m ρ).duties (scell c k) 0 \ ∅) (fun d => (Rd m ρ).payload (scell c k) 0 d) = sPay m ρ c k := by
  rw [Finset.sdiff_empty, duties_S, bigSep_singleton, payload_S]
theorem rest_R : bigSep ((Rd m ρ).duties (rcell c k) 0 \ ∅) (fun d => (Rd m ρ).payload (rcell c k) 0 d) = rPay m ρ c k := by
  rw [Finset.sdiff_empty, duties_R, bigSep_singleton, payload_R]

end Sched

/-! ## What each device owes; the levels -/

/-- The credits device `c` still owes its peers when the transfers `ks` are still to be sent. -/
def owe (c : Dev nD) : List (Fin 10) → CellTallies nD τ sig Unit
  | [] => 0
  | k :: ks => owe c ks + tallyAt (rcell (peer k c) k) () (amt k)

/-- At launch: all ten, and a unit at either neighbour's barrier, the first to be signalled last in the sum. -/
def O₁ (c : Dev nD) : CellTallies nD τ sig Unit := owe c [0, 1, 2, 3, 4, 5, 6, 7, 8, 9] + tallyAt (bcell (xN c)) () 1
def O₀ (c : Dev nD) : CellTallies nD τ sig Unit := O₁ c + tallyAt (bcell (yN c)) () 1

def L (g : GSem nD τ sig) : Finset Unit := if g.1.2 = .tc then {()} else ∅
/-- Barrier cells at 1, receive cell `k` at `2 + k`, everything else at 0. -/
def lv (g : GSem nD τ sig) (_ : Unit) : ℕ :=
  match g.2 with
  | .reg _ => 1
  | .dma q => if q.val < 12 then 0 else q.val - 10

theorem L_of_ne (g : GSem nD τ sig) (h : g.1.2 ≠ .tc) : L g = ∅ := if_neg h
theorem L_tc (c : Dev nD) (sm : SemLoc sig) : L ((c : Thread nD τ), sm) = {()} := if_pos rfl

theorem lv_R (c : Dev nD) (k : Fin 10) (u : Unit) : lv (rcell c k) u = 2 + k.val := by
  show (if (rS k).val < 12 then 0 else (rS k).val - 10) = _
  rw [if_neg (rS_lt k)]; show 12 + k.val - 10 = _; omega
theorem lv_B (c : Dev nD) (u : Unit) : lv (bcell c) u = 1 := rfl

theorem tally_pos {g g' : GSem nD τ sig} {n : ℕ} {u : Unit} (h : 0 < tallyAt g () n g' u) : g' = g := by
  rw [tallyAt_apply] at h
  by_contra hn
  rw [if_neg (fun h' => hn h'.1)] at h; exact Nat.lt_irrefl 0 h

theorem owe_pos {c : Dev nD} {ks : List (Fin 10)} {g : GSem nD τ sig} {u : Unit} (h : 0 < owe c ks g u) :
    ∃ k ∈ ks, g = rcell (peer k c) k := by
  induction ks with
  | nil => exact absurd h (Nat.lt_irrefl 0)
  | cons k ks ih =>
    have h' : 0 < owe c ks g u + tallyAt (rcell (peer k c) k) () (amt k) g u := h
    rcases Nat.eq_zero_or_pos (owe c ks g u) with h0 | h0
    · rw [h0, Nat.zero_add] at h'
      exact ⟨k, List.mem_cons_self, tally_pos h'⟩
    · obtain ⟨j, hj, e⟩ := ih h0; exact ⟨j, List.mem_cons_of_mem _ hj, e⟩

theorem O₀_pos {c : Dev nD} {g : GSem nD τ sig} {u : Unit} (h : 0 < O₀ c g u) :
    (∃ k, g = rcell (peer k c) k) ∨ g = bcell (xN c) ∨ g = bcell (yN c) := by
  have h' : 0 < owe c [0, 1, 2, 3, 4, 5, 6, 7, 8, 9] g u + tallyAt (bcell (xN c)) () 1 g u + tallyAt (bcell (yN c)) () 1 g u := h
  rcases Nat.eq_zero_or_pos (owe c [0, 1, 2, 3, 4, 5, 6, 7, 8, 9] g u) with h0 | h0
  · rcases Nat.eq_zero_or_pos (tallyAt (bcell (xN c)) () 1 g u) with h1 | h1
    · rw [h0, h1, Nat.zero_add] at h'; exact .inr (.inr (tally_pos h'))
    · exact .inr (.inl (tally_pos h1))
  · obtain ⟨k, _, e⟩ := owe_pos h0; exact .inl ⟨k, e⟩

/-- A wait on a cell of level `n` is allowed while only receive cells above it are owed. -/
theorem mayWait_owe (c : Dev nD) (sm : SemLoc sig) (n : ℕ) (hn : lv ((c : Thread nD τ), sm) () ≤ n) (ks : List (Fin 10))
    (hks : ∀ j ∈ ks, n < 2 + j.val) :
    (levAts L lv : sProp 𝕄) ⊢ MayWait (c : Thread nD τ) sm () (owe c ks) :=
  MayOwe.of_cut (L := L) (lev := lv) n (fun p hp => by rw [Finset.mem_singleton.mp hp, L_tc]; exact Finset.mem_singleton_self _)
    (fun g u hg => by obtain ⟨k, _, rfl⟩ := owe_pos hg; exact Finset.mem_singleton_self _)
    (fun p hp => by rw [Finset.mem_singleton.mp hp]; exact hn)
    (fun g u hg => by obtain ⟨k, hk, rfl⟩ := owe_pos hg; rw [lv_R]; exact hks k hk)

theorem mayWait_stage (c : Dev nD) (q : DmaSem sig) (hq : q.val < 12) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl | rfl <;> exact Finset.mem_singleton_self _)
      (fun p hp => by rw [Finset.mem_singleton.mp hp]; dsimp only [lv]; rw [if_pos hq])
      (fun g u hg => by
        rcases O₀_pos hg with ⟨k, rfl⟩ | rfl | rfl
        · rw [lv_R]; omega
        · exact Nat.one_pos
        · exact Nat.one_pos)
  · rw [MayWait_zero]; iintro -; iempintro

end Cert.KernelIdeal.Exchange
-- ==== Proof.OnKernelIdeal.Steps.lean ====
/-
The steps of the body: one lemma per kind of operation (signal, send, wait, sum of two windows), each at a symbolic
device and transfer, and what a write through a window leaves in its band.
-/
module

public import proofs.«01_k».proof.Proof.OnKernelIdeal.Schedule

@[expose] public section

noncomputable section

namespace Cert.KernelIdeal.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## Writes through windows -/

section Writes
variable {off : Fin 2 → ℕ} {lo : ℕ} (h : off = ![lo, 0]) (d : Dev nD) (g : ℕ → ℕ → F .f32)
include h

theorem oW_put {inb} (fd : S2048x1024.Idx → F .f32) (w : S256x1024.Idx → F .f32) (hw : w = tab fun r l => g (lo + r) l) :
    (oL d ↦[(rows lo 256 : Finset S2048x1024.Idx)]{fullShare} (oW off inb).view.write (Elt F) fd w Finset.univ : sProp 𝕄)
      = oPts d lo 256 fullShare g := by
  unfold oPts
  rw [← oW_set h (inb := inb)]
  refine pointsTo_congr fun i hi => ?_
  obtain ⟨j, _, rfl⟩ := Finset.mem_map.mp hi
  rw [View.write_emb_of_mem _ _ (Finset.mem_univ j), hw]
  exact (tab_emb (N := 2048) (n := 256) h g j).symm
theorem oH_put {inb} (fd : S2048x1024.Idx → F .f32) (w : S512x1024.Idx → F .f32) (hw : w = tab fun r l => g (lo + r) l) :
    (oL d ↦[(rows lo 512 : Finset S2048x1024.Idx)]{fullShare} (oH off inb).view.write (Elt F) fd w Finset.univ : sProp 𝕄)
      = oPts d lo 512 fullShare g := by
  unfold oPts
  rw [← oH_set h (inb := inb)]
  refine pointsTo_congr fun i hi => ?_
  obtain ⟨j, _, rfl⟩ := Finset.mem_map.mp hi
  rw [View.write_emb_of_mem _ _ (Finset.mem_univ j), hw]
  exact (tab_emb (N := 2048) (n := 512) h g j).symm
theorem aW_put {inb} (fd : S512x1024.Idx → F .f32) (w : S256x1024.Idx → F .f32) (hw : w = tab fun r l => g (lo + r) l) :
    (aL d ↦[(rows lo 256 : Finset S512x1024.Idx)]{fullShare} (aW off inb).view.write (Elt F) fd w Finset.univ : sProp 𝕄)
      = aL d ↦[(rows lo 256 : Finset S512x1024.Idx)]{fullShare} (tab g : S512x1024.Idx → F .f32) := by
  rw [← aW_set h (inb := inb)]
  refine pointsTo_congr fun i hi => ?_
  obtain ⟨j, _, rfl⟩ := Finset.mem_map.mp hi
  rw [View.write_emb_of_mem _ _ (Finset.mem_univ j), hw]
  exact (tab_emb (N := 512) (n := 256) h g j).symm
theorem bW_put {inb} (fd : S512x1024.Idx → F .f32) (w : S256x1024.Idx → F .f32) (hw : w = tab fun r l => g (lo + r) l) :
    (bL d ↦[(rows lo 256 : Finset S512x1024.Idx)]{fullShare} (bW off inb).view.write (Elt F) fd w Finset.univ : sProp 𝕄)
      = bL d ↦[(rows lo 256 : Finset S512x1024.Idx)]{fullShare} (tab g : S512x1024.Idx → F .f32) := by
  rw [← bW_set h (inb := inb)]
  refine pointsTo_congr fun i hi => ?_
  obtain ⟨j, _, rfl⟩ := Finset.mem_map.mp hi
  rw [View.write_emb_of_mem _ _ (Finset.mem_univ j), hw]
  exact (tab_emb (N := 512) (n := 256) h g j).symm
/-- A band of the operand, read. -/
theorem xW_tab {inb} : (xW off inb).view.read (Elt F) (xstg m ρ d : S1x1x2048x1024.Idx → F .f32)
    = tab fun r l => xr m ρ d (lo + r) l := funext fun j => xW_read h _ j
end Writes

/-! ## The cells' records -/

section Steps

variable (K : Dev nD × Fin 21 → ℕ)

/-- Every cell's invariant, under the names `K`, and that it has reached round 0. -/
def records : sProp 𝕄 :=
  bigSep Finset.univ fun cj : Dev nD × Fin 21 => iprop(cellInv ER (Rd m ρ) (K cj) (kcell cj) ∗ reached ER (kcell cj) 0)

instance records_persistent : BI.Persistent (records m ρ K) := by unfold records; infer_instance

theorem record_at (cj : Dev nD × Fin 21) :
    records m ρ K ⊢ iprop(cellInv ER (Rd m ρ) (K cj) (kcell cj) ∗ reached ER (kcell cj) 0) := bigSep_elim (Finset.mem_univ cj)
theorem record_B (c : Dev nD) : records m ρ K ⊢ iprop(cellInv ER (Rd m ρ) (K (c, 0)) (bcell c) ∗ reached ER (bcell c) 0) :=
  record_at m ρ K (c, 0)
theorem record_S (c : Dev nD) (k : Fin 10) :
    records m ρ K ⊢ iprop(cellInv ER (Rd m ρ) (K (c, jS k)) (scell c k) ∗ reached ER (scell c k) 0) := by
  rw [← kcell_S]; exact record_at m ρ K (c, jS k)
theorem record_R (c : Dev nD) (k : Fin 10) :
    records m ρ K ⊢ iprop(cellInv ER (Rd m ρ) (K (c, jR k)) (rcell c k) ∗ reached ER (rcell c k) 0) := by
  rw [← kcell_R]; exact record_at m ρ K (c, jR k)

/-- What device `c` owes, whatever it has waited for. -/
def owesE (c : Dev nD) (O : CellTallies nD τ sig Unit) : sProp 𝕄 := iprop(∃ W, owes (c : Thread nD τ) O W)

/-- The tokens transfer `k` of device `c` is paid with. -/
def tx (c : Dev nD) (k : Fin 10) : sProp 𝕄 :=
  iprop(dutyTok ER (scell c k) 0 false ∗ dutyTok ER (rcell (peer k c) k) 0 false)
/-- What the wait for transfer `k` to arrive at device `c` needs. -/
def rx (c : Dev nD) (k : Fin 10) : sProp 𝕄 :=
  iprop(cred (tallyAt (rcell c k) () (amt k)) ∗ atPos ER (rcell c k) 0 ∅ 0)

variable (c : Dev nD)

/-- The body's weakest precondition at device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem signal_step {α : Type} {Φ : α → sProp 𝕄} (dv n : Dev nD) (hdv : dv = n) (d : Bool) (O₁ O₂ : CellTallies nD τ sig Unit) (hO : O₁ = O₂ + tallyAt (bcell n) () 1)
    {k : PUnit → Prog (TpuEff nD τ sig (Elt F) Λ₀ .tc) α} :
    iprop(records m ρ K ∗ owesE c O₁ ∗ dutyTok ER (bcell n) 0 d ∗ barPay n d)
      ⊢ iprop((owesE c O₂ -∗ WP c (k ⟨⟩) Φ) -∗ WP c (.op (.semSignal (Dev.tc dv : Thread nD τ) barS 1) k) Φ) := by
  subst hdv
  unfold owesE
  iintro ⟨#Hrec, ⟨%W, HO⟩, Ht, Hp⟩ Hk
  ihave Hrr := (record_B m ρ K dv) $$ Hrec
  icases Hrr with ⟨#HI, #HR⟩
  iapply (Rounds.wp_signal 𝒱₀ ER (Rd m ρ) (c : Thread nD τ) none (dst := (dv : Thread nD τ)) (κ := K (dv, 0)) (d := d) (r := 0)
      (by rw [duties_B]; exact Finset.mem_univ _) (amount_B m ρ dv d) () O₂ hO) $$ [HO Ht Hp]
  · isplitr; · iexact HI
    isplitl [HO]; · iexact HO
    isplitl [Ht]; · iexact Ht
    isplitl [Hp]; · rw [payload_B]; iexact Hp
    iexact HR
  iintro HO
  iapply Hk
  iexists W; iexact HO

theorem barrier_step {α : Type} {Φ : α → sProp 𝕄} {k : PUnit → Prog (TpuEff nD τ sig (Elt F) Λ₀ .tc) α} :
    iprop(records m ρ K ∗ levAts L lv ∗ owesE c (owe c [0, 1, 2, 3, 4, 5, 6, 7, 8, 9]) ∗ cred (tallyAt (bcell c) () 2) ∗ atPos ER (bcell c) 0 ∅ 0)
      ⊢ iprop(((owesE c (owe c [0, 1, 2, 3, 4, 5, 6, 7, 8, 9]) ∗ semVal (bcell c) 0 ∗ barPay c false ∗ barPay c true) -∗ WP c (k ⟨⟩) Φ)
          -∗ WP c (.op (.semWait barS 2) k) Φ) := by
  unfold owesE
  iintro ⟨#Hrec, #Hlev, ⟨%W, HO⟩, Hc, Hat⟩ Hk
  ihave Hrr := (record_B m ρ K c) $$ Hrec
  icases Hrr with ⟨#HI, #HR⟩
  iapply (Rounds.wp_wait_rest_token 𝒱₀ ER (Rd m ρ) (c : Thread nD τ) none (κ := K (c, 0))
      (wpE_semWait_eq 𝒱₀ (c : Thread nD τ) none Set.univ) (Set.mem_univ _) () (O := owe c [0, 1, 2, 3, 4, 5, 6, 7, 8, 9]) (W := W) (R := 0) (m := 0) (T := ∅)
      (by rw [expect_B])) $$ [Hc HO Hat]
  · isplitr; · iexact HI
    isplitl [Hc]; · iexact Hc
    isplitl [HO]; · iexact HO
    isplitr; · iapply (mayWait_owe c (.reg barS) 1 (le_of_eq (lv_B c ())) _ (by decide)); iexact Hlev
    iexact Hat
  iintro ⟨HO, Hat, -, Hpay⟩
  ihave Hp := (Entails.of_eq (rest_B m ρ c)) $$ Hpay
  imod (Rounds.cell_close ER (Rd m ρ) (Set.mem_univ (K (c, 0))) (fun h => h) (R := 0 + 1) (duties_later m ρ (bcell c))) $$ [Hat] with Hz
  · isplitr; · iexact HI
    iexact Hat
  iapply Hk
  isplitl [HO]; · iexists _; iexact HO
  isplitl [Hz]; · iexact Hz
  iexact Hp

section Send
variable (k : Fin 10) (ks : List (Fin 10)) {s : Shape} {src dst : Memref sig .tc .vmem s .f32} {dv : Dev nD} {qs qr : DmaSem sig}
  {hsc : (dst : Memref sig (Dev.tc dv : Thread nD τ).2.kind .vmem s .f32).view.ref.isScScratch = false}
  {hsrc : src.view.WordExact} {hdst : dst.view.WordExact}
  {hsem : DmaTarget.Typed .vmem (.dma qr) (.remote (Dev.tc dv : Thread nD τ) dst (.dma qs) hsc)}

/-- A send that gives its source back at the sender. -/
theorem send_step {α : Type} {Φ : α → sProp 𝕄} {kt : PUnit → Prog (TpuEff nD τ sig (Elt F) Λ₀ .tc) α} (hdv : dv = peer k c) (hqs : qs = sS k) (hqr : qr = rS k) (hN : dst.view.amount (.dma qr) = amt k)
    {q : PosShare TreeShare} {fs : Buf (Elt F) (src.view.loc (c : Thread nD τ))} {fd : Buf (Elt F) (dst.view.loc (peer k c : Thread nD τ))}
    {S : Finset (Idx (src.view.loc (c : Thread nD τ)))} {T : Finset (Idx (dst.view.loc (peer k c : Thread nD τ)))}
    (hS : src.view.set = S) (hT : dst.view.set = T)
    (hp₁ : (src.view.loc (c : Thread nD τ) ↦[S]{q} fs) ⊢ sPay m ρ c k)
    (hp₂ : (dst.view.loc (peer k c : Thread nD τ) ↦[T]{fullShare} dst.view.write (Elt F) fd (src.view.read (Elt F) fs) Finset.univ)
      ⊢ rPay m ρ (peer k c) k) :
    iprop(records m ρ K ∗ (src.view.loc (c : Thread nD τ) ↦[S]{q} fs) ∗ (dst.view.loc (peer k c : Thread nD τ) ↦[T]{fullShare} fd)
        ∗ owesE c (owe c (k :: ks)) ∗ tx c k)
      ⊢ iprop(((cred (tallyAt (scell c k) () (amt k)) ∗ owesE c (owe c ks)) -∗ WP c (kt ⟨⟩) Φ)
          -∗ WP c (.op (.enqueueDma src (.remote (Dev.tc dv : Thread nD τ) dst (.dma qs) hsc) (.dma qr) hsrc hdst hsem) kt) Φ) := by
  subst hdv hqs hqr hS hT
  unfold owesE tx
  iintro ⟨#Hrec, Hs, Hd, ⟨%W, HO⟩, Ht1, Ht2⟩ Hk
  ihave Hr1 := (record_S m ρ K c k) $$ Hrec
  icases Hr1 with ⟨#HI1, #HR1⟩
  ihave Hr2 := (record_R m ρ K (peer k c) k) $$ Hrec
  icases Hr2 with ⟨#HI2, #HR2⟩
  iapply (Rounds.wp_send_pointsTo 𝒱₀ ER (Rd m ρ) (c : Thread nD τ) none (κ₁ := K (c, jS k)) (κ₂ := K (peer k c, jR k))
    (r₁ := 0) (r₂ := 0) (d₁ := false) (d₂ := false) (fd := fd) (fs := fs) (q := q)
    (by rw [duties_S]; exact Finset.mem_singleton_self _) (by rw [duties_R]; exact Finset.mem_singleton_self _)
    () () (amt k) hN (amount_S m ρ c k false) (amount_R m ρ (peer k c) k false) (owe c ks) rfl (W := W)
    (by rw [payload_S]; exact hp₁) (by rw [payload_R]; exact hp₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO

/-- A send whose source goes to the receiver with what lands. -/
theorem send_give_step {α : Type} {Φ : α → sProp 𝕄} {kt : PUnit → Prog (TpuEff nD τ sig (Elt F) Λ₀ .tc) α} (hdv : dv = peer k c) (hqs : qs = sS k) (hqr : qr = rS k) (hN : dst.view.amount (.dma qr) = amt k)
    {q : PosShare TreeShare} {fs : Buf (Elt F) (src.view.loc (c : Thread nD τ))} {fd : Buf (Elt F) (dst.view.loc (peer k c : Thread nD τ))}
    {S : Finset (Idx (src.view.loc (c : Thread nD τ)))} {T : Finset (Idx (dst.view.loc (peer k c : Thread nD τ)))}
    (hS : src.view.set = S) (hT : dst.view.set = T)
    (hp₁ : (emp : sProp 𝕄) ⊢ sPay m ρ c k)
    (hp₂ : iprop((dst.view.loc (peer k c : Thread nD τ) ↦[T]{fullShare} dst.view.write (Elt F) fd (src.view.read (Elt F) fs) Finset.univ)
      ∗ (src.view.loc (c : Thread nD τ) ↦[S]{q} fs)) ⊢ rPay m ρ (peer k c) k) :
    iprop(records m ρ K ∗ (src.view.loc (c : Thread nD τ) ↦[S]{q} fs) ∗ (dst.view.loc (peer k c : Thread nD τ) ↦[T]{fullShare} fd)
        ∗ owesE c (owe c (k :: ks)) ∗ tx c k)
      ⊢ iprop(((cred (tallyAt (scell c k) () (amt k)) ∗ owesE c (owe c ks)) -∗ WP c (kt ⟨⟩) Φ)
          -∗ WP c (.op (.enqueueDma src (.remote (Dev.tc dv : Thread nD τ) dst (.dma qs) hsc) (.dma qr) hsrc hdst hsem) kt) Φ) := by
  subst hdv hqs hqr hS hT
  unfold owesE tx
  iintro ⟨#Hrec, Hs, Hd, ⟨%W, HO⟩, Ht1, Ht2⟩ Hk
  ihave Hr1 := (record_S m ρ K c k) $$ Hrec
  icases Hr1 with ⟨#HI1, #HR1⟩
  ihave Hr2 := (record_R m ρ K (peer k c) k) $$ Hrec
  icases Hr2 with ⟨#HI2, #HR2⟩
  iapply (Rounds.wp_send_landing_pointsTo 𝒱₀ ER (Rd m ρ) (c : Thread nD τ) none (κ₁ := K (c, jS k)) (κ₂ := K (peer k c, jR k))
    (r₁ := 0) (r₂ := 0) (d₁ := false) (d₂ := false) (fd := fd) (fs := fs) (q := q)
    (by rw [duties_S]; exact Finset.mem_singleton_self _) (by rw [duties_R]; exact Finset.mem_singleton_self _)
    () () (amt k) hN (amount_S m ρ c k false) (amount_R m ρ (peer k c) k false) (owe c ks) rfl (W := W)
    (by rw [payload_S]; exact hp₁) (by rw [payload_R]; exact hp₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO
end Send

section Wait
variable (k : Fin 10) (ks : List (Fin 10)) {s : Shape} {src dst : Memref sig .tc .vmem s .f32} {qw : DmaSem sig}
  {hsrc : src.view.WordExact} {hdst : dst.view.WordExact}

/-- The wait for transfer `k` to arrive. -/
theorem recv_step {α : Type} {Φ : α → sProp 𝕄} {kt : PUnit → Prog (TpuEff nD τ sig (Elt F) Λ₀ .tc) α} (hq : qw = rS k) (hN : dst.view.dmaCredit = amt k) (hks : ∀ j ∈ ks, k.val < j.val) :
    iprop(records m ρ K ∗ levAts L lv ∗ owesE c (owe c ks) ∗ rx c k)
      ⊢ iprop(((owesE c (owe c ks) ∗ semVal (rcell c k) 0 ∗ rPay m ρ c k) -∗ WP c (kt ⟨⟩) Φ)
          -∗ WP c (.op (.waitDma2 qw src dst hsrc hdst) kt) Φ) := by
  subst hq
  unfold owesE rx
  iintro ⟨#Hrec, #Hlev, ⟨%W, HO⟩, Hc, Hat⟩ Hk
  ihave Hrr := (record_R m ρ K c k) $$ Hrec
  icases Hrr with ⟨#HI, #HR⟩
  iapply (Rounds.wp_wait_rest_token 𝒱₀ ER (Rd m ρ) (c : Thread nD τ) none (κ := K (c, jR k))
      (wpE_waitDma2_eq 𝒱₀ (c : Thread nD τ) none Set.univ) (Set.mem_univ _) () (O := owe c ks) (W := W) (R := 0) (m := 0) (T := ∅)
      (by rw [Nat.zero_add, expect_R]; exact hN)) $$ [Hc HO Hat]
  · isplitr; · iexact HI
    isplitl [Hc]; · rw [hN]; iexact Hc
    isplitl [HO]; · iexact HO
    isplitr; · iapply (mayWait_owe c (.dma (rS k)) (2 + k.val) (le_of_eq (lv_R c k ())) ks (fun j hj => by have := hks j hj; omega)); iexact Hlev
    iexact Hat
  iintro ⟨HO, Hat, -, Hpay⟩
  ihave Hp := (Entails.of_eq (rest_R m ρ c k)) $$ Hpay
  imod (Rounds.cell_close ER (Rd m ρ) (Set.mem_univ (K (c, jR k))) (fun h => h) (R := 0 + 1) (duties_later m ρ (rcell c k))) $$ [Hat] with Hz
  · isplitr; · iexact HI
    iexact Hat
  iapply Hk
  isplitl [HO]; · iexists _; iexact HO
  isplitl [Hz]; · iexact Hz
  iexact Hp

/-- The wait for transfer `k` to have left, once nothing is owed. -/
theorem sent_step {α : Type} {Φ : α → sProp 𝕄} {kt : PUnit → Prog (TpuEff nD τ sig (Elt F) Λ₀ .tc) α} (hq : qw = sS k) (hN : dst.view.dmaCredit = amt k) :
    iprop(records m ρ K ∗ owesE c 0 ∗ cred (tallyAt (scell c k) () (amt k)) ∗ atPos ER (scell c k) 0 ∅ 0)
      ⊢ iprop(((owesE c 0 ∗ semVal (scell c k) 0 ∗ sPay m ρ c k) -∗ WP c (kt ⟨⟩) Φ)
          -∗ WP c (.op (.waitDma2 qw src dst hsrc hdst) kt) Φ) := by
  subst hq
  unfold owesE
  iintro ⟨#Hrec, ⟨%W, HO⟩, Hc, Hat⟩ Hk
  ihave Hrr := (record_S m ρ K c k) $$ Hrec
  icases Hrr with ⟨#HI, #HR⟩
  iapply (Rounds.wp_wait_rest_token 𝒱₀ ER (Rd m ρ) (c : Thread nD τ) none (κ := K (c, jS k))
      (wpE_waitDma2_eq 𝒱₀ (c : Thread nD τ) none Set.univ) (Set.mem_univ _) () (O := 0) (W := W) (R := 0) (m := 0) (T := ∅)
      (by rw [Nat.zero_add, expect_S]; exact hN)) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_S m ρ c k)) $$ Hpay
  imod (Rounds.cell_close ER (Rd m ρ) (Set.mem_univ (K (c, jS k))) (fun h => h) (R := 0 + 1) (duties_later m ρ (scell c k))) $$ [Hat] with Hz
  · isplitr; · iexact HI
    iexact Hat
  iapply Hk
  isplitl [HO]; · iexists _; iexact HO
  isplitl [Hz]; · iexact Hz
  iexact Hp
end Wait

section Sum
variable {off : Fin 2 → ℕ} {lo : ℕ} (h : off = ![lo, 0]) {inb : ∀ a, off a + S256x1024.size a ≤ S2048x1024.size a}
  {s₂ : Shape} {m₂ : Memref sig .tc .vmem s₂ .f32} {off₂ : Fin s₂.rank → ℕ} {size₂ : Fin s₂.rank → ℕ} {inb₂ : ∀ a, off₂ a + size₂ a ≤ s₂.size a}
  {pay : Vec F S256x1024 .f32 → Vec F ⟨s₂.rank, size₂⟩ .f32 → Vec F S256x1024 .f32}
  {g : ℕ → ℕ → F .f32}
include h

/-- A band of the operand plus a window of a landing buffer, stored into the same band of the result. -/
theorem sum_step {α : Type} {Φ : α → sProp 𝕄} {hl₁ : xS.view.LoadsAt (Rect.unit (s := S2048x1024) off S256x1024.size inb).toLoadRect}
    {hl₂ : m₂.view.LoadsAt (Rect.unit off₂ size₂ inb₂).toLoadRect}
    {hl₃ : oM.view.LoadsAt (Rect.unit (s := S2048x1024) off S256x1024.size inb).toLoadRect}
    {hx : (oM.access (Rect.unit (s := S2048x1024) off S256x1024.size inb)).Stores Finset.univ}
    {hm : (Finset.univ : Finset S256x1024.Idx) = Finset.univ ∨ ∀ a, (Rect.unit (s := S2048x1024) off S256x1024.size inb).stride a = 1}
    {kt : PUnit → Prog (TpuEff nD τ sig (Elt F) Λ₀ .tc) α}
    {S : Finset (Idx ((m₂.access (Rect.unit off₂ size₂ inb₂)).loc (c : Thread nD τ)))}
    {f₂ : Buf (Elt F) ((m₂.access (Rect.unit off₂ size₂ inb₂)).loc (c : Thread nD τ))} {q₁ q₂ : PosShare TreeShare}
    (hS : (m₂.access (Rect.unit off₂ size₂ inb₂)).set ⊆ S)
    (hv : pay (tab (α := F .f32) fun r l => xr m ρ c (lo + r) l) ((m₂.access (Rect.unit off₂ size₂ inb₂)).read (Elt F) f₂) = tab fun r l => g (lo + r) l) :
    iprop((xL c ↦{q₁} xstg m ρ c) ∗ ((m₂.access (Rect.unit off₂ size₂ inb₂)).loc (c : Thread nD τ) ↦[S]{q₂} f₂) ∗ oAny c lo 256)
      ⊢ iprop((((xL c ↦{q₁} xstg m ρ c) ∗ ((m₂.access (Rect.unit off₂ size₂ inb₂)).loc (c : Thread nD τ) ↦[S]{q₂} f₂) ∗ oPts c lo 256 fullShare g) -∗ WP c (kt ⟨⟩) Φ)
          -∗ WP c (.op (.load xS (Rect.unit (s := S2048x1024) off S256x1024.size inb).toLoadRect hl₁) fun (v₁ : Vec F S256x1024 .f32) =>
              .op (.load m₂ (Rect.unit off₂ size₂ inb₂).toLoadRect hl₂) fun (v₂ : Vec F ⟨s₂.rank, size₂⟩ .f32) =>
              .op (.load oM (Rect.unit (s := S2048x1024) off S256x1024.size inb).toLoadRect hl₃) fun _ =>
              .op (.store oM (Rect.unit (s := S2048x1024) off S256x1024.size inb) (pay v₁ v₂) Finset.univ hx hm) kt) Φ) := by
  iintro ⟨Hx, H₂, ⟨%f, Ho⟩⟩ Hk
  iapply (wp_load_rect 𝒱₀ (c : Thread nD τ) none Set.univ (m := xS) (r := Rect.unit (s := S2048x1024) off S256x1024.size inb) (Finset.subset_univ _)) $$ Hx
  iintro Hx
  iapply (wp_load_rect 𝒱₀ (c : Thread nD τ) none Set.univ (m := m₂) (r := Rect.unit off₂ size₂ inb₂) hS) $$ H₂
  iintro H₂
  have hset : (oM.access (Rect.unit (s := S2048x1024) off S256x1024.size inb)).set ⊆ (rows lo 256 : Finset S2048x1024.Idx) :=
    (oW_set h (inb := inb)).subset
  iapply (wp_load_rect 𝒱₀ (c : Thread nD τ) none Set.univ (m := oM) (r := Rect.unit (s := S2048x1024) off S256x1024.size inb) hset) $$ Ho
  iintro Ho
  iapply (wp_store 𝒱₀ (c : Thread nD τ) none Set.univ (m := oM) (r := Rect.unit (s := S2048x1024) off S256x1024.size inb) (Mk := Finset.univ) hset) $$ Ho
  iintro Ho
  iapply Hk
  isplitl [Hx]; · iexact Hx
  isplitl [H₂]; · iexact H₂
  iapply (Entails.of_eq (oW_put h c g (inb := inb) f _ ((congrArg (fun v => pay v _) (xW_tab m ρ h c (inb := inb))).trans hv)))
  iexact Ho

/-- A window of a landing buffer added into a band of the result. -/
theorem acc_step {α : Type} {Φ : α → sProp 𝕄} {g₀ : ℕ → ℕ → F .f32} {hl₁ hl₃ : oM.view.LoadsAt (Rect.unit (s := S2048x1024) off S256x1024.size inb).toLoadRect}
    {hl₂ : m₂.view.LoadsAt (Rect.unit off₂ size₂ inb₂).toLoadRect}
    {hx : (oM.access (Rect.unit (s := S2048x1024) off S256x1024.size inb)).Stores Finset.univ}
    {hm : (Finset.univ : Finset S256x1024.Idx) = Finset.univ ∨ ∀ a, (Rect.unit (s := S2048x1024) off S256x1024.size inb).stride a = 1}
    {kt : PUnit → Prog (TpuEff nD τ sig (Elt F) Λ₀ .tc) α}
    {S : Finset (Idx ((m₂.access (Rect.unit off₂ size₂ inb₂)).loc (c : Thread nD τ)))}
    {f₂ : Buf (Elt F) ((m₂.access (Rect.unit off₂ size₂ inb₂)).loc (c : Thread nD τ))} {q₂ : PosShare TreeShare}
    (hS : (m₂.access (Rect.unit off₂ size₂ inb₂)).set ⊆ S)
    (hv : pay (tab (α := F .f32) fun r l => g₀ (lo + r) l) ((m₂.access (Rect.unit off₂ size₂ inb₂)).read (Elt F) f₂) = tab fun r l => g (lo + r) l) :
    iprop(((m₂.access (Rect.unit off₂ size₂ inb₂)).loc (c : Thread nD τ) ↦[S]{q₂} f₂) ∗ oPts c lo 256 fullShare g₀)
      ⊢ iprop(((((m₂.access (Rect.unit off₂ size₂ inb₂)).loc (c : Thread nD τ) ↦[S]{q₂} f₂) ∗ oPts c lo 256 fullShare g) -∗ WP c (kt ⟨⟩) Φ)
          -∗ WP c (.op (.load oM (Rect.unit (s := S2048x1024) off S256x1024.size inb).toLoadRect hl₁) fun (v₁ : Vec F S256x1024 .f32) =>
              .op (.load m₂ (Rect.unit off₂ size₂ inb₂).toLoadRect hl₂) fun (v₂ : Vec F ⟨s₂.rank, size₂⟩ .f32) =>
              .op (.load oM (Rect.unit (s := S2048x1024) off S256x1024.size inb).toLoadRect hl₃) fun _ =>
              .op (.store oM (Rect.unit (s := S2048x1024) off S256x1024.size inb) (pay v₁ v₂) Finset.univ hx hm) kt) Φ) := by
  iintro ⟨H₂, Ho⟩ Hk
  have hset : (oM.access (Rect.unit (s := S2048x1024) off S256x1024.size inb)).set ⊆ (rows lo 256 : Finset S2048x1024.Idx) :=
    (oW_set h (inb := inb)).subset
  iapply (wp_load_rect 𝒱₀ (c : Thread nD τ) none Set.univ (m := oM) (r := Rect.unit (s := S2048x1024) off S256x1024.size inb) hset) $$ Ho
  iintro Ho
  iapply (wp_load_rect 𝒱₀ (c : Thread nD τ) none Set.univ (m := m₂) (r := Rect.unit off₂ size₂ inb₂) hS) $$ H₂
  iintro H₂
  iapply (wp_load_rect 𝒱₀ (c : Thread nD τ) none Set.univ (m := oM) (r := Rect.unit (s := S2048x1024) off S256x1024.size inb) hset) $$ Ho
  iintro Ho
  iapply (wp_store 𝒱₀ (c : Thread nD τ) none Set.univ (m := oM) (r := Rect.unit (s := S2048x1024) off S256x1024.size inb) (Mk := Finset.univ) hset) $$ Ho
  iintro Ho
  iapply Hk
  isplitl [H₂]; · iexact H₂
  iapply (Entails.of_eq (oW_put h c g (inb := inb) _ _ ((congrArg (fun v => pay v _) (oW_read h g₀ (inb := inb))).trans hv)))
  iexact Ho
end Sum

end Steps

end Cert.KernelIdeal.Exchange
-- ==== Proof.OnKernelIdeal.Values.lean ====
/-
The arithmetic of the bands and the values the sums take: where each band of one device lies on its neighbours, which
device finishes a row, and that each stored sum is the table the schedule names.
-/
module

public import proofs.«01_k».proof.Proof.OnKernelIdeal.Steps

@[expose] public section

noncomputable section

namespace Cert.KernelIdeal.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Bands on the neighbours -/

theorem ha_yN : ∀ c, ha (yN c) = hap c := by decide
theorem hap_yN : ∀ c, hap (yN c) = ha c := by decide
theorem hb_xN : ∀ c, hb (xN c) = hbp c := by decide
theorem hbp_xN : ∀ c, hbp (xN c) = hb c := by decide
theorem qa_xN : ∀ c, qa (xN c) = qap c := by decide
theorem qap_xN : ∀ c, qap (xN c) = qa c := by decide
theorem qb_yN : ∀ c, qb (yN c) = qbp c := by decide
theorem qbp_yN : ∀ c, qbp (yN c) = qb c := by decide
theorem fa_yN : ∀ c, fa (yN c) = fa c := by decide
theorem sa_yN : ∀ c, sa (yN c) = sa c := by decide
theorem fb_xN : ∀ c, fb (xN c) = fb c := by decide
theorem sb_xN : ∀ c, sb (xN c) = sb c := by decide
theorem ha_fa : ∀ c, ha c + fa c = qap c := by decide
theorem ha_sa : ∀ c, ha c + sa c = qa c := by decide
theorem hb_fb : ∀ c, hb c + fb c = qbp c := by decide
theorem hb_sb : ∀ c, hb c + sb c = qb c := by decide

theorem off1a : ∀ c, k0_off1 c 2#32 = ![fa c, 0] := by decide
theorem off1b : ∀ c, k0_off1 c 1#32 = ![fb c, 0] := by decide
theorem off3a : ∀ c, k0_off3 c 2#32 = ![sa c, 0] := by decide
theorem off3b : ∀ c, k0_off3 c 1#32 = ![sb c, 0] := by decide
theorem off8a : ∀ c, k0_off8 c 2#32 = ![fa c, 0] := by decide
theorem off8b : ∀ c, k0_off8 c 1#32 = ![fb c, 0] := by decide
theorem off13a : ∀ c, k0_off13 c 2#32 = ![sa c, 0] := by decide
theorem off13b : ∀ c, k0_off13 c 1#32 = ![sb c, 0] := by decide

theorem row2 : ∀ c, k0_off2 c = ![hap c + fa c, 0] := fun c => (k0_off2_eq c).trans (by revert c; decide)
theorem row4 : ∀ c, k0_off4 c = ![hap c + sa c, 0] := fun c => (k0_off4_eq c).trans (by revert c; decide)
theorem row5 : ∀ c, k0_off5 c = ![hbp c + fb c, 0] := fun c => (k0_off5_eq c).trans (by revert c; decide)
theorem row6 : ∀ c, k0_off6 c = ![hbp c + sb c, 0] := fun c => (k0_off6_eq c).trans (by revert c; decide)

theorem qa_lt : ∀ c, qa c + 256 ≤ 1024 := by decide
theorem qap_lt : ∀ c, qap c + 256 ≤ 1024 := by decide
theorem qb_le : ∀ c, 1024 ≤ qb c := by decide
theorem qbp_le : ∀ c, 1024 ≤ qbp c := by decide

/-- Device `c` finishes the rows of its two bands. -/
theorem ownr_qa (c : Dev nD) {j : ℕ} (hj : j < 256) : ownr (qa c + j) = c := by
  have hc : c.val < 4 := c.isLt
  have hlt := qa_lt c
  refine Fin.ext ?_
  refine (congrArg (· % 4) (if_pos (by omega))).trans ?_
  unfold qa
  show (2 * ((512 * (c.val % 2) + 256 * (c.val / 2) + j) % 512 / 256) + (512 * (c.val % 2) + 256 * (c.val / 2) + j) / 512) % 4 = c.val
  have h1 : (512 * (c.val % 2) + 256 * (c.val / 2) + j) / 512 = c.val % 2 := by omega
  have h2 : (512 * (c.val % 2) + 256 * (c.val / 2) + j) % 512 / 256 = c.val / 2 := by omega
  rw [h1, h2]; omega
theorem ownr_qb (c : Dev nD) {j : ℕ} (hj : j < 256) : ownr (qb c + j) = c := by
  have hc : c.val < 4 := c.isLt
  have hle := qb_le c
  refine Fin.ext ?_
  refine (congrArg (· % 4) (if_neg (by omega))).trans ?_
  unfold qb
  show (2 * ((512 * (c.val / 2) + 256 * (c.val % 2) + 1024 + j - 1024) / 512) + (512 * (c.val / 2) + 256 * (c.val % 2) + 1024 + j) % 512 / 256) % 4 = c.val
  omega

/-! ## The sums -/

section Sums
variable (c : Dev nD) {pay : Vec F S256x1024 .f32 → Vec F S256x1024 .f32 → Vec F S256x1024 .f32}
  (hp : ∀ a b, pay a b = fun j => add2 (a j) (b j))
include hp

theorem sumA {off : Fin 2 → ℕ} {lo lo₂ : ℕ} (h : off = ![lo₂, 0]) (hlo : ha c + lo₂ = lo) (hlt : lo + 256 ≤ 1024) {inb} :
    pay (tab fun r l => xr m ρ c (lo + r) l)
        ((aM.access (Rect.unit (s := S512x1024) off S256x1024.size inb)).read (Elt F) (tab (gA m ρ c) : S512x1024.Idx → F .f32))
      = tab fun r l => part m ρ c (lo + r) l := by
  rw [hp]; refine funext fun j => ?_
  have hj : (j 0).val < 256 := (j 0).isLt
  refine (congrArg (add2 _) (congrFun (aW_read h (inb := inb) (gA m ρ c)) j)).trans ?_
  show add2 (xr m ρ c (lo + (j 0).val) (j 1).val) (xr m ρ (yN c) (ha c + (lo₂ + (j 0).val)) (j 1).val) = part m ρ c (lo + (j 0).val) (j 1).val
  unfold part; rw [if_pos (by omega), ← Nat.add_assoc, hlo]

theorem sumB {off : Fin 2 → ℕ} {lo lo₂ : ℕ} (h : off = ![lo₂, 0]) (hlo : hb c + lo₂ = lo) (hle : 1024 ≤ lo) {inb} :
    pay (tab fun r l => xr m ρ c (lo + r) l)
        ((bM.access (Rect.unit (s := S512x1024) off S256x1024.size inb)).read (Elt F) (tab (gB m ρ c) : S512x1024.Idx → F .f32))
      = tab fun r l => part m ρ c (lo + r) l := by
  rw [hp]; refine funext fun j => ?_
  refine (congrArg (add2 _) (congrFun (bW_read h (inb := inb) (gB m ρ c)) j)).trans ?_
  show add2 (xr m ρ c (lo + (j 0).val) (j 1).val) (xr m ρ (xN c) (hb c + (lo₂ + (j 0).val)) (j 1).val) = part m ρ c (lo + (j 0).val) (j 1).val
  unfold part; rw [if_neg (by omega), ← Nat.add_assoc, hlo]

theorem accA {inb} :
    pay (tab fun r l => part m ρ c (qa c + r) l)
        ((a1M.access (Rect.unit (s := S256x1024) ![0, 0] S256x1024.size inb)).read (Elt F) (tab (gA1 m ρ c) : S256x1024.Idx → F .f32))
      = tab fun r l => fin m ρ (qa c + r) l := by
  rw [hp]; refine funext fun j => ?_
  have hj : (j 0).val < 256 := (j 0).isLt
  have hlt := qa_lt c
  refine (congrArg (add2 _) (tab_emb (N := 256) (n := 256) (lo := 0) rfl (inb := inb) (gA1 m ρ c) j)).trans ?_
  show add2 (part m ρ c (qa c + (j 0).val) (j 1).val) (part m ρ (xN c) (qa c + (0 + (j 0).val)) (j 1).val) = fin m ρ (qa c + (j 0).val) (j 1).val
  unfold fin; rw [if_pos (by omega), ownr_qa c hj, Nat.zero_add]

theorem accB {inb} :
    pay (tab fun r l => part m ρ c (qb c + r) l)
        ((b1M.access (Rect.unit (s := S256x1024) ![0, 0] S256x1024.size inb)).read (Elt F) (tab (gB1 m ρ c) : S256x1024.Idx → F .f32))
      = tab fun r l => fin m ρ (qb c + r) l := by
  rw [hp]; refine funext fun j => ?_
  have hj : (j 0).val < 256 := (j 0).isLt
  have hle := qb_le c
  refine (congrArg (add2 _) (tab_emb (N := 256) (n := 256) (lo := 0) rfl (inb := inb) (gB1 m ρ c) j)).trans ?_
  show add2 (part m ρ c (qb c + (j 0).val) (j 1).val) (part m ρ (yN c) (qb c + (0 + (j 0).val)) (j 1).val) = fin m ρ (qb c + (j 0).val) (j 1).val
  unfold fin; rw [if_neg (by omega), ownr_qb c hj, Nat.zero_add]
end Sums

theorem pay1 (a b : Vec F S256x1024 .f32) : k0_pay1 a b = fun j => add2 (a j) (b j) := by unfold k0_pay1; rw [shapeCast_self]; rfl
theorem pay2 (a b : Vec F S256x1024 .f32) : k0_pay2 a b = fun j => add2 (a j) (b j) := by unfold k0_pay2; rw [shapeCast_self]; rfl
theorem pay3 (a b : Vec F S256x1024 .f32) : k0_pay3 a b = fun j => add2 (a j) (b j) := by unfold k0_pay3; rw [shapeCast_self]; rfl
theorem pay4 (a b : Vec F S256x1024 .f32) : k0_pay4 a b = fun j => add2 (a j) (b j) := by unfold k0_pay4; rw [shapeCast_self]; rfl
theorem pay5 (a b : Vec F S256x1024 .f32) : k0_pay5 a b = fun j => add2 (a j) (b j) := by unfold k0_pay5; rw [shapeCast_self]; rfl
theorem pay6 (a b : Vec F S256x1024 .f32) : k0_pay6 a b = fun j => add2 (a j) (b j) := by unfold k0_pay6; rw [shapeCast_self]; rfl

end Cert.KernelIdeal.Exchange
-- ==== Proof.OnKernelIdeal.Parts.lean ====
/-
The body in its parts, each at a symbolic device: what a part takes of the exchange's resources and what it leaves.
-/
module

public import proofs.«01_k».proof.Proof.OnKernelIdeal.Values

@[expose] public section

noncomputable section

namespace Cert.KernelIdeal.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A band of a landing buffer at any contents. -/
abbrev aAny (d : Dev nD) (lo : ℕ) : sProp 𝕄 := iprop(∃ f, aL d ↦[(rows lo 256 : Finset S512x1024.Idx)]{fullShare} f)
abbrev bAny (d : Dev nD) (lo : ℕ) : sProp 𝕄 := iprop(∃ f, bL d ↦[(rows lo 256 : Finset S512x1024.Idx)]{fullShare} f)
abbrev a1Any (d : Dev nD) : sProp 𝕄 := iprop(∃ f, a1L d ↦{fullShare} f)
abbrev b1Any (d : Dev nD) : sProp 𝕄 := iprop(∃ f, b1L d ↦{fullShare} f)
/-- The credit of a transfer that has been sent. -/
abbrev sx (c : Dev nD) (k : Fin 10) : sProp 𝕄 := cred (tallyAt (scell c k) () (amt k))
/-- A landed band of either first buffer. -/
abbrev la (c : Dev nD) (lo : ℕ) : sProp 𝕄 := aL c ↦[(rows lo 256 : Finset S512x1024.Idx)]{fullShare} (tab (gA m ρ c) : S512x1024.Idx → F .f32)
abbrev lb (c : Dev nD) (lo : ℕ) : sProp 𝕄 := bL c ↦[(rows lo 256 : Finset S512x1024.Idx)]{fullShare} (tab (gB m ρ c) : S512x1024.Idx → F .f32)
/-- The operand as the body's loads hold it. -/
abbrev xHold (c : Dev nD) : sProp 𝕄 := xL c ↦{xq0} xstg m ρ c

/-! ## What lands -/

section Land
variable (c : Dev nD) {off off₂ : Fin 2 → ℕ} {lo : ℕ} (h₂ : off₂ = ![lo, 0])
include h₂

/-- A band of the operand landed in the neighbour's buffer along the second axis. -/
theorem land_a (h : off = ![hap c + lo, 0]) {inb inb₂} (fd : S512x1024.Idx → F .f32) :
    (aL (yN c) ↦[(rows lo 256 : Finset S512x1024.Idx)]{fullShare} (aW off₂ inb₂).view.write (Elt F) fd
        ((xW off inb).view.read (Elt F) (xstg m ρ c)) Finset.univ : sProp 𝕄)
      = aL (yN c) ↦[(rows lo 256 : Finset S512x1024.Idx)]{fullShare} (tab (gA m ρ (yN c)) : S512x1024.Idx → F .f32) := by
  refine aW_put h₂ (yN c) (gA m ρ (yN c)) fd _ ((xW_tab m ρ h c).trans (funext fun j => ?_))
  show xr m ρ c _ _ = xr m ρ (yN (yN c)) _ _; rw [yN_yN, ha_yN, Nat.add_assoc]

/-- The same along the first axis. -/
theorem land_b (h : off = ![hbp c + lo, 0]) {inb inb₂} (fd : S512x1024.Idx → F .f32) :
    (bL (xN c) ↦[(rows lo 256 : Finset S512x1024.Idx)]{fullShare} (bW off₂ inb₂).view.write (Elt F) fd
        ((xW off inb).view.read (Elt F) (xstg m ρ c)) Finset.univ : sProp 𝕄)
      = bL (xN c) ↦[(rows lo 256 : Finset S512x1024.Idx)]{fullShare} (tab (gB m ρ (xN c)) : S512x1024.Idx → F .f32) := by
  refine bW_put h₂ (xN c) (gB m ρ (xN c)) fd _ ((xW_tab m ρ h c).trans (funext fun j => ?_))
  show xr m ρ c _ _ = xr m ρ (xN (xN c)) _ _; rw [xN_xN, hb_xN, Nat.add_assoc]
end Land

theorem a1_put (d : Dev nD) (g : ℕ → ℕ → F .f32) (fd w : S256x1024.Idx → F .f32) (hw : w = tab g) :
    (a1L d ↦[(Finset.univ : Finset S256x1024.Idx)]{fullShare} (a1M).view.write (Elt F) fd w Finset.univ : sProp 𝕄)
      = a1L d ↦{fullShare} (tab g : S256x1024.Idx → F .f32) := by
  subst hw
  exact congrArg (fun f => (a1L d ↦{fullShare} f : sProp 𝕄)) (View.write_whole_univ _ _ _)
theorem b1_put (d : Dev nD) (g : ℕ → ℕ → F .f32) (fd w : S256x1024.Idx → F .f32) (hw : w = tab g) :
    (b1L d ↦[(Finset.univ : Finset S256x1024.Idx)]{fullShare} (b1M).view.write (Elt F) fd w Finset.univ : sProp 𝕄)
      = b1L d ↦{fullShare} (tab g : S256x1024.Idx → F .f32) := by
  subst hw
  exact congrArg (fun f => (b1L d ↦{fullShare} f : sProp 𝕄)) (View.write_whole_univ _ _ _)

/-- The two quarter bands of a half, joined. -/
theorem oPts_half {c : Dev nD} {lo lo' lo'' : ℕ} (h : lo = lo'' ∧ lo' = lo + 256 ∨ lo' = lo'' ∧ lo = lo' + 256) (q : PosShare TreeShare) (g : ℕ → ℕ → F .f32) :
    iprop(oPts c lo 256 q g ∗ oPts c lo' 256 q g) ⊢ oPts c lo'' 512 q g := by
  have hd : Disjoint (rows lo 256 : Finset S2048x1024.Idx) (rows lo' 256) := rows_disjoint (by omega)
  unfold oPts
  rw [← rows_union (N := 2048) (lo := lo) (n := 256) (lo' := lo') (n' := 256) ⟨h, rfl⟩]
  exact (pointsTo_union (ℓ := oL c) hd).2

theorem qa_or : ∀ c, qa c = ha c ∧ qap c = qa c + 256 ∨ qap c = ha c ∧ qa c = qap c + 256 := by decide
theorem qb_or : ∀ c, qb c = hb c ∧ qbp c = qb c + 256 ∨ qbp c = hb c ∧ qb c = qbp c + 256 := by decide

section Parts

variable (K : Dev nD × Fin 21 → ℕ) (c : Dev nD)

theorem part1_step {α : Type} {Φ : α → sProp 𝕄}
    {k : (Σ' (d0 : Dev nD) (v2 : BitVec 32) (v5 : BitVec 32) (v6 : BitVec 32) (v7 : BitVec 32) (v19 : BitVec 32) (v21 : BitVec 32) (v24 : BitVec 32) (v26 : BitVec 32) (v28 : BitVec 32), BitVec 32)
      → Prog (TpuEff nD τ sig (Elt F) Λ₀ .tc) α} :
    iprop(records m ρ K ∗ levAts L lv ∗ owesE c (O₀ c) ∗ dutyTok ER (bcell (yN c)) 0 false ∗ dutyTok ER (bcell (xN c)) 0 true
        ∗ barPay (yN c) false ∗ barPay (xN c) true ∗ cred (tallyAt (bcell c) () 2) ∗ atPos ER (bcell c) 0 ∅ 0)
      ⊢ iprop((∀ v2 v5 v6 v7 v19 v21 v24 v26 v28 w,
            (owesE c (owe c [0, 1, 2, 3, 4, 5, 6, 7, 8, 9]) ∗ semVal (bcell c) 0 ∗ barPay c false ∗ barPay c true)
              -∗ WP c (k ⟨c, v2, v5, v6, v7, v19, v21, v24, v26, v28, w⟩) Φ)
          -∗ WP c (k0_part1 xM (Memref.isWhole_whole _) oM (Memref.isWhole_whole _) aM (Memref.isWhole_whole _) a1M (Memref.isWhole_whole _)
              bM (Memref.isWhole_whole _) b1M (Memref.isWhole_whole _) cc0_scratch4 cc0_scratch5 >>= k) Φ) := by
  rw [k0_part1_eq_skeleton]; unfold k0_part1_skel
  simp only [semSignalWord, semWaitWord, Prog.lift, bind_assoc, pure_bind, Prog.bind_op, Prog.bind_ret, Prog.pure_eq_ret, wp_deviceId]
  iintro ⟨#Hrec, #Hlev, HO, Ht1, Ht2, Hp1, Hp2, Hc, Hat⟩ Hk
  iapply (signal_step m ρ K c _ (yN c) (Fin.ext (k0_dev1_eq c)) false (O₀ c) (O₁ c) rfl) $$ [HO Ht1 Hp1]
  · isplitr; · iexact Hrec
    isplitl [HO]; · iexact HO
    isplitl [Ht1]; · iexact Ht1
    iexact Hp1
  iintro HO
  iapply (signal_step m ρ K c _ (xN c) (Fin.ext (k0_dev2_eq c)) true (O₁ c) _ rfl) $$ [HO Ht2 Hp2]
  · isplitr; · iexact Hrec
    isplitl [HO]; · iexact HO
    isplitl [Ht2]; · iexact Ht2
    iexact Hp2
  iintro HO
  iapply (barrier_step m ρ K c) $$ [HO Hc Hat]
  · isplitr; · iexact Hrec
    isplitr; · iexact Hlev
    isplitl [HO]; · iexact HO
    isplitl [Hc]; · iexact Hc
    iexact Hat
  iintro H
  iapply Hk $$ H

theorem part2_step {α : Type} {Φ : α → sProp 𝕄} (v2 v5 v6 v19 v26 v28 w : BitVec 32)
    {k : (Σ' (v31 : BitVec 32) (v34 : BitVec 32) (v36 : BitVec 32) (v37 : BitVec 32) (v39 : BitVec 32), BitVec 32)
      → Prog (TpuEff nD τ sig (Elt F) Λ₀ .tc) α} :
    iprop(records m ρ K ∗ xPart m ρ c 0 ∗ aAny (yN c) (fa c) ∗ owesE c (owe c [0, 1, 2, 3, 4, 5, 6, 7, 8, 9]) ∗ tx c 0)
      ⊢ iprop((∀ v31 v34 v36 v37 v39 v40, (sx c 0 ∗ owesE c (owe c [1, 2, 3, 4, 5, 6, 7, 8, 9])) -∗ WP c (k ⟨v31, v34, v36, v37, v39, v40⟩) Φ)
          -∗ WP c (k0_part2 xM (Memref.isWhole_whole _) oM (Memref.isWhole_whole _) aM (Memref.isWhole_whole _) a1M (Memref.isWhole_whole _)
              bM (Memref.isWhole_whole _) b1M (Memref.isWhole_whole _) cc0_scratch4 cc0_scratch5 c v2 v5 v6 v19 v26 v28 w >>= k) Φ) := by
  rw [k0_part2_eq_skeleton]; unfold k0_part2_skel
  simp only [Prog.lift, bind_assoc, pure_bind, Prog.bind_op, Prog.bind_ret, Prog.pure_eq_ret]
  iintro ⟨#Hrec, Hs, ⟨%fd, Hd⟩, HO, Ht⟩ Hk
  have hp := (land_a m ρ c (off1a c) (row2 c) (inb := k0_off2_inb c) (inb₂ := k0_off1_inb c 1) fd).trans
    (show _ = rPay m ρ (yN c) 0 by unfold rPay; rw [fa_yN])
  iapply (send_step m ρ K c 0 [1, 2, 3, 4, 5, 6, 7, 8, 9] (src := xW (k0_off2 c) (k0_off2_inb c)) (dst := aW (k0_off1 c 2#32) (k0_off1_inb c 1))
    (Fin.ext (k0_dev3_eq c)) rfl rfl rfl (fd := fd) (fs := xstg m ρ c) (q := xq 0)
    (S := xset c 0) rfl (aW_set (off1a c)) (Entails.refl _) (Entails.of_eq hp)) $$ [Hs Hd HO Ht]
  · isplitr; · iexact Hrec
    isplitl [Hs]; · iexact Hs
    isplitl [Hd]; · iexact Hd
    isplitl [HO]; · iexact HO
    iexact Ht
  iintro H
  iapply Hk $$ H

theorem part3_step {α : Type} {Φ : α → sProp 𝕄} (v5 v7 : BitVec 32) {k : PUnit → Prog (TpuEff nD τ sig (Elt F) Λ₀ .tc) α} :
    iprop(records m ρ K ∗ xPart m ρ c 1 ∗ xPart m ρ c 2 ∗ aAny (yN c) (sa c) ∗ bAny (xN c) (fb c) ∗ owesE c (owe c [1, 2, 3, 4, 5, 6, 7, 8, 9]) ∗ tx c 1 ∗ tx c 2)
      ⊢ iprop(((sx c 1 ∗ sx c 2 ∗ owesE c (owe c [3, 4, 5, 6, 7, 8, 9])) -∗ WP c (k ⟨⟩) Φ)
          -∗ WP c (k0_part3 xM (Memref.isWhole_whole _) oM (Memref.isWhole_whole _) aM (Memref.isWhole_whole _) a1M (Memref.isWhole_whole _)
              bM (Memref.isWhole_whole _) b1M (Memref.isWhole_whole _) cc0_scratch4 cc0_scratch5 c v5 v7 >>= k) Φ) := by
  rw [k0_part3_eq_skeleton]; unfold k0_part3_skel
  simp only [Prog.lift, bind_assoc, pure_bind, Prog.bind_op, Prog.bind_ret, Prog.pure_eq_ret]
  iintro ⟨#Hrec, Hs, Hs2, ⟨%fd, Hd⟩, ⟨%fd2, Hd2⟩, HO, Ht, Ht2⟩ Hk
  have hp := (land_a m ρ c (off3a c) (row4 c) (inb := k0_off4_inb c) (inb₂ := k0_off3_inb c 1) fd).trans
    (show _ = rPay m ρ (yN c) 1 by unfold rPay; rw [sa_yN])
  iapply (send_step m ρ K c 1 [2, 3, 4, 5, 6, 7, 8, 9] (src := xW (k0_off4 c) (k0_off4_inb c)) (dst := aW (k0_off3 c 2#32) (k0_off3_inb c 1))
    (Fin.ext (k0_dev4_eq c)) rfl rfl rfl (fd := fd) (fs := xstg m ρ c) (q := xq 1)
    (S := xset c 1) rfl (aW_set (off3a c)) (Entails.refl _) (Entails.of_eq hp)) $$ [Hs Hd HO Ht]
  · isplitr; · iexact Hrec
    isplitl [Hs]; · iexact Hs
    isplitl [Hd]; · iexact Hd
    isplitl [HO]; · iexact HO
    iexact Ht
  iintro ⟨Hc, HO⟩
  have hp := (land_b m ρ c (off1b c) (row5 c) (inb := k0_off5_inb c) (inb₂ := k0_off1_inb c 0) fd2).trans
    (show _ = rPay m ρ (xN c) 2 by unfold rPay; rw [fb_xN])
  iapply (send_step m ρ K c 2 [3, 4, 5, 6, 7, 8, 9] (src := xW (k0_off5 c) (k0_off5_inb c)) (dst := bW (k0_off1 c 1#32) (k0_off1_inb c 0))
    (Fin.ext (k0_dev5_eq c)) rfl rfl rfl (fd := fd2) (fs := xstg m ρ c) (q := xq 2)
    (S := xset c 2) rfl (bW_set (off1b c)) (Entails.refl _) (Entails.of_eq hp)) $$ [Hs2 Hd2 HO Ht2]
  · isplitr; · iexact Hrec
    isplitl [Hs2]; · iexact Hs2
    isplitl [Hd2]; · iexact Hd2
    isplitl [HO]; · iexact HO
    iexact Ht2
  iintro ⟨Hc2, HO⟩
  iapply Hk
  isplitl [Hc]; · iexact Hc
  isplitl [Hc2]; · iexact Hc2
  iexact HO

theorem part4_step {α : Type} {Φ : α → sProp 𝕄} (v2 v5 v6 v7 v24 v36 : BitVec 32) {k : PUnit → Prog (TpuEff nD τ sig (Elt F) Λ₀ .tc) α} :
    iprop(records m ρ K ∗ levAts L lv ∗ xPart m ρ c 3 ∗ bAny (xN c) (sb c) ∗ owesE c (owe c [3, 4, 5, 6, 7, 8, 9]) ∗ tx c 3 ∗ tx c 4 ∗ rx c 0 ∗ xHold m ρ c ∗ oAny c (qap c) 256 ∗ a1Any (xN c))
      ⊢ iprop(((sx c 3 ∗ sx c 4 ∗ owesE c (owe c [5, 6, 7, 8, 9]) ∗ semVal (rcell c 0) 0 ∗ xHold m ρ c ∗ la m ρ c (fa c)) -∗ WP c (k ⟨⟩) Φ)
          -∗ WP c (k0_part4 xM (Memref.isWhole_whole _) oM (Memref.isWhole_whole _) aM (Memref.isWhole_whole _) a1M (Memref.isWhole_whole _)
              bM (Memref.isWhole_whole _) b1M (Memref.isWhole_whole _) cc0_scratch4 cc0_scratch5 c v2 v5 v6 v7 v24 v36 >>= k) Φ) := by
  rw [k0_part4_eq_skeleton]; unfold k0_part4_skel
  simp only [Prog.lift, bind_assoc, pure_bind, Prog.bind_op, Prog.bind_ret, Prog.pure_eq_ret]
  iintro ⟨#Hrec, #Hlev, Hs, ⟨%fd, Hd⟩, HO, Ht, Ht4, Hr, Hx, Ho, ⟨%fd4, Hd4⟩⟩ Hk
  have hp := (land_b m ρ c (off3b c) (row6 c) (inb := k0_off6_inb c) (inb₂ := k0_off3_inb c 0) fd).trans
    (show _ = rPay m ρ (xN c) 3 by unfold rPay; rw [sb_xN])
  iapply (send_step m ρ K c 3 [4, 5, 6, 7, 8, 9] (src := xW (k0_off6 c) (k0_off6_inb c)) (dst := bW (k0_off3 c 1#32) (k0_off3_inb c 0))
    (Fin.ext (k0_dev6_eq c)) rfl rfl rfl (fd := fd) (fs := xstg m ρ c) (q := xq 3)
    (S := xset c 3) rfl (bW_set (off3b c)) (Entails.refl _) (Entails.of_eq hp)) $$ [Hs Hd HO Ht]
  · isplitr; · iexact Hrec
    isplitl [Hs]; · iexact Hs
    isplitl [Hd]; · iexact Hd
    isplitl [HO]; · iexact HO
    iexact Ht
  iintro ⟨Hc, HO⟩
  iapply (recv_step m ρ K c 0 [4, 5, 6, 7, 8, 9] rfl rfl (by decide)) $$ [HO Hr]
  · isplitr; · iexact Hrec
    isplitr; · iexact Hlev
    isplitl [HO]; · iexact HO
    iexact Hr
  iintro ⟨HO, Hz, Hl⟩
  ihave Hl := (show rPay m ρ c 0 ⊢ la m ρ c (fa c) from Entails.refl _) $$ Hl
  iapply (sum_step m ρ c (k0_off7_eq c) (inb := k0_off7_inb c) (m₂ := aM) (off₂ := k0_off8 c 2#32) (size₂ := S256x1024.size) (inb₂ := k0_off8_inb c 1)
    (pay := k0_pay1) (g := part m ρ c) (S := (rows (fa c) 256 : Finset S512x1024.Idx)) (f₂ := (tab (gA m ρ c) : S512x1024.Idx → F .f32)) (q₁ := xq0) (q₂ := fullShare)
    (aW_set (off8a c)).subset (sumA m ρ c pay1 (off8a c) (ha_fa c) (qap_lt c))) $$ [Hx Hl Ho]
  · isplitl [Hx]; · iexact Hx
    isplitl [Hl]; · iexact Hl
    iexact Ho
  iintro ⟨Hx, Hl, Ho⟩
  have hp : iprop((a1L (xN c) ↦[(Finset.univ : Finset S256x1024.Idx)]{fullShare} (a1M).view.write (Elt F) fd4
        ((oW (k0_off9 c) (k0_off9_inb c)).view.read (Elt F) (tab (part m ρ c) : S2048x1024.Idx → F .f32)) Finset.univ)
      ∗ oPts c (qap c) 256 fullShare (part m ρ c)) ⊢ rPay m ρ (xN c) 4 := by
    rw [a1_put (xN c) (gA1 m ρ (xN c)) fd4 _ ((oW_read (k0_off9_eq c) (part m ρ c)).trans
      (by show _ = tab fun r l => part m ρ (xN (xN c)) (qa (xN c) + r) l; rw [xN_xN, qa_xN]; rfl))]
    unfold rPay oPts oAny
    rw [xN_xN, qa_xN]
    iintro ⟨H1, H2⟩
    isplitl [H1]; · iexact H1
    iexists _; iexact H2
  iapply (send_give_step m ρ K c 4 [5, 6, 7, 8, 9] (src := oW (k0_off9 c) (k0_off9_inb c)) (dst := a1M)
    (Fin.ext (k0_dev7_eq c)) rfl rfl rfl (fd := fd4) (fs := (tab (part m ρ c) : S2048x1024.Idx → F .f32)) (q := fullShare)
    (S := (rows (qap c) 256 : Finset S2048x1024.Idx)) (T := (Finset.univ : Finset S256x1024.Idx)) (oW_set (k0_off9_eq c)) (View.set_whole _) (Entails.refl _) hp) $$ [Ho Hd4 HO Ht4]
  · isplitr; · iexact Hrec
    isplitl [Ho]; · iexact Ho
    isplitl [Hd4]; · iexact Hd4
    isplitl [HO]; · iexact HO
    iexact Ht4
  iintro ⟨Hc4, HO⟩
  iapply Hk
  isplitl [Hc]; · iexact Hc
  isplitl [Hc4]; · iexact Hc4
  isplitl [HO]; · iexact HO
  isplitl [Hz]; · iexact Hz
  isplitl [Hx]; · iexact Hx
  iexact Hl

theorem part5_step {α : Type} {Φ : α → sProp 𝕄} (v2 v5 v6 v7 v34 v39 : BitVec 32) {k : (Σ' (v151 : BitVec 32), BitVec 32) → Prog (TpuEff nD τ sig (Elt F) Λ₀ .tc) α} :
    iprop(records m ρ K ∗ levAts L lv ∗ owesE c (owe c [5, 6, 7, 8, 9]) ∗ tx c 5 ∗ rx c 2 ∗ xHold m ρ c ∗ oAny c (qbp c) 256 ∗ b1Any (yN c))
      ⊢ iprop((∀ w w', (sx c 5 ∗ owesE c (owe c [6, 7, 8, 9]) ∗ semVal (rcell c 2) 0 ∗ xHold m ρ c ∗ lb m ρ c (fb c)) -∗ WP c (k ⟨w, w'⟩) Φ)
          -∗ WP c (k0_part5 xM (Memref.isWhole_whole _) oM (Memref.isWhole_whole _) aM (Memref.isWhole_whole _) a1M (Memref.isWhole_whole _)
              bM (Memref.isWhole_whole _) b1M (Memref.isWhole_whole _) cc0_scratch4 cc0_scratch5 c v2 v5 v6 v7 v34 v39 >>= k) Φ) := by
  rw [k0_part5_eq_skeleton]; unfold k0_part5_skel
  simp only [Prog.lift, bind_assoc, pure_bind, Prog.bind_op, Prog.bind_ret, Prog.pure_eq_ret]
  iintro ⟨#Hrec, #Hlev, HO, Ht, Hr, Hx, Ho, ⟨%fd, Hd⟩⟩ Hk
  iapply (recv_step m ρ K c 2 [5, 6, 7, 8, 9] rfl rfl (by decide)) $$ [HO Hr]
  · isplitr; · iexact Hrec
    isplitr; · iexact Hlev
    isplitl [HO]; · iexact HO
    iexact Hr
  iintro ⟨HO, Hz, Hl⟩
  ihave Hl := (show rPay m ρ c 2 ⊢ lb m ρ c (fb c) from Entails.refl _) $$ Hl
  iapply (sum_step m ρ c (k0_off10_eq c) (inb := k0_off10_inb c) (m₂ := bM) (off₂ := k0_off8 c 1#32) (size₂ := S256x1024.size) (inb₂ := k0_off8_inb c 0)
    (pay := k0_pay2) (g := part m ρ c) (S := (rows (fb c) 256 : Finset S512x1024.Idx)) (f₂ := (tab (gB m ρ c) : S512x1024.Idx → F .f32)) (q₁ := xq0) (q₂ := fullShare)
    (bW_set (off8b c)).subset (sumB m ρ c pay2 (off8b c) (hb_fb c) (qbp_le c))) $$ [Hx Hl Ho]
  · isplitl [Hx]; · iexact Hx
    isplitl [Hl]; · iexact Hl
    iexact Ho
  iintro ⟨Hx, Hl, Ho⟩
  have hp : iprop((b1L (yN c) ↦[(Finset.univ : Finset S256x1024.Idx)]{fullShare} (b1M).view.write (Elt F) fd
        ((oW (k0_off11 c) (k0_off11_inb c)).view.read (Elt F) (tab (part m ρ c) : S2048x1024.Idx → F .f32)) Finset.univ)
      ∗ oPts c (qbp c) 256 fullShare (part m ρ c)) ⊢ rPay m ρ (yN c) 5 := by
    rw [b1_put (yN c) (gB1 m ρ (yN c)) fd _ ((oW_read (k0_off11_eq c) (part m ρ c)).trans
      (by show _ = tab fun r l => part m ρ (yN (yN c)) (qb (yN c) + r) l; rw [yN_yN, qb_yN]; rfl))]
    unfold rPay oPts oAny
    rw [yN_yN, qb_yN]
    iintro ⟨H1, H2⟩
    isplitl [H1]; · iexact H1
    iexists _; iexact H2
  iapply (send_give_step m ρ K c 5 [6, 7, 8, 9] (src := oW (k0_off11 c) (k0_off11_inb c)) (dst := b1M)
    (Fin.ext (k0_dev8_eq c)) rfl rfl rfl (fd := fd) (fs := (tab (part m ρ c) : S2048x1024.Idx → F .f32)) (q := fullShare)
    (S := (rows (qbp c) 256 : Finset S2048x1024.Idx)) (T := (Finset.univ : Finset S256x1024.Idx)) (oW_set (k0_off11_eq c)) (View.set_whole _) (Entails.refl _) hp) $$ [Ho Hd HO Ht]
  · isplitr; · iexact Hrec
    isplitl [Ho]; · iexact Ho
    isplitl [Hd]; · iexact Hd
    isplitl [HO]; · iexact HO
    iexact Ht
  iintro ⟨Hc, HO⟩
  iapply Hk
  isplitl [Hc]; · iexact Hc
  isplitl [HO]; · iexact HO
  isplitl [Hz]; · iexact Hz
  isplitl [Hx]; · iexact Hx
  iexact Hl

theorem part6_step {α : Type} {Φ : α → sProp 𝕄} (v5 v6 v7 v21 v37 v151 w : BitVec 32) {k : PUnit → Prog (TpuEff nD τ sig (Elt F) Λ₀ .tc) α} :
    iprop(records m ρ K ∗ levAts L lv ∗ owesE c (owe c [6, 7, 8, 9]) ∗ rx c 1 ∗ rx c 3 ∗ xHold m ρ c ∗ oAny c (qa c) 256)
      ⊢ iprop(((owesE c (owe c [6, 7, 8, 9]) ∗ semVal (rcell c 1) 0 ∗ semVal (rcell c 3) 0 ∗ xHold m ρ c ∗ la m ρ c (sa c) ∗ lb m ρ c (sb c) ∗ oPts c (qa c) 256 fullShare (part m ρ c)) -∗ WP c (k ⟨⟩) Φ)
          -∗ WP c (k0_part6 xM (Memref.isWhole_whole _) oM (Memref.isWhole_whole _) aM (Memref.isWhole_whole _) a1M (Memref.isWhole_whole _)
              bM (Memref.isWhole_whole _) b1M (Memref.isWhole_whole _) cc0_scratch4 cc0_scratch5 c v5 v6 v7 v21 v37 v151 w >>= k) Φ) := by
  rw [k0_part6_eq_skeleton]; unfold k0_part6_skel
  simp only [Prog.lift, bind_assoc, pure_bind, Prog.bind_op, Prog.bind_ret, Prog.pure_eq_ret]
  iintro ⟨#Hrec, #Hlev, HO, Hr, Hr3, Hx, Ho⟩ Hk
  iapply (recv_step m ρ K c 1 [6, 7, 8, 9] rfl rfl (by decide)) $$ [HO Hr]
  · isplitr; · iexact Hrec
    isplitr; · iexact Hlev
    isplitl [HO]; · iexact HO
    iexact Hr
  iintro ⟨HO, Hz, Hl⟩
  ihave Hl := (show rPay m ρ c 1 ⊢ la m ρ c (sa c) from Entails.refl _) $$ Hl
  iapply (sum_step m ρ c (k0_off12_eq c) (inb := k0_off12_inb c) (m₂ := aM) (off₂ := k0_off13 c 2#32) (size₂ := S256x1024.size) (inb₂ := k0_off13_inb c 1)
    (pay := k0_pay3) (g := part m ρ c) (S := (rows (sa c) 256 : Finset S512x1024.Idx)) (f₂ := (tab (gA m ρ c) : S512x1024.Idx → F .f32)) (q₁ := xq0) (q₂ := fullShare)
    (aW_set (off13a c)).subset (sumA m ρ c pay3 (off13a c) (ha_sa c) (qa_lt c))) $$ [Hx Hl Ho]
  · isplitl [Hx]; · iexact Hx
    isplitl [Hl]; · iexact Hl
    iexact Ho
  iintro ⟨Hx, Hl, Ho⟩
  iapply (recv_step m ρ K c 3 [6, 7, 8, 9] rfl rfl (by decide)) $$ [HO Hr3]
  · isplitr; · iexact Hrec
    isplitr; · iexact Hlev
    isplitl [HO]; · iexact HO
    iexact Hr3
  iintro ⟨HO, Hz3, Hl3⟩
  ihave Hl3 := (show rPay m ρ c 3 ⊢ lb m ρ c (sb c) from Entails.refl _) $$ Hl3
  iapply Hk
  isplitl [HO]; · iexact HO
  isplitl [Hz]; · iexact Hz
  isplitl [Hz3]; · iexact Hz3
  isplitl [Hx]; · iexact Hx
  isplitl [Hl]; · iexact Hl
  isplitl [Hl3]; · iexact Hl3
  iexact Ho

theorem part7_step {α : Type} {Φ : α → sProp 𝕄} (v5 v7 v21 v31 v40 : BitVec 32) {k : BitVec 32 → Prog (TpuEff nD τ sig (Elt F) Λ₀ .tc) α} :
    iprop(records m ρ K ∗ levAts L lv ∗ owesE c (owe c [6, 7, 8, 9]) ∗ tx c 6 ∗ rx c 4 ∗ xHold m ρ c ∗ lb m ρ c (sb c) ∗ oAny c (qb c) 256 ∗ oPts c (qa c) 256 fullShare (part m ρ c))
      ⊢ iprop((∀ w, (sx c 6 ∗ owesE c (owe c [7, 8, 9]) ∗ semVal (rcell c 4) 0 ∗ xHold m ρ c ∗ lb m ρ c (sb c) ∗ a1Any c ∗ oPts c (qb c) 256 fullShare (part m ρ c) ∗ oPts c (qa c) 256 fullShare.right (fin m ρ)) -∗ WP c (k w) Φ)
          -∗ WP c (k0_part7 xM (Memref.isWhole_whole _) oM (Memref.isWhole_whole _) aM (Memref.isWhole_whole _) a1M (Memref.isWhole_whole _)
              bM (Memref.isWhole_whole _) b1M (Memref.isWhole_whole _) cc0_scratch4 cc0_scratch5 c v5 v7 v21 v31 v40 >>= k) Φ) := by
  rw [k0_part7_eq_skeleton]; unfold k0_part7_skel
  simp only [Prog.lift, bind_assoc, pure_bind, Prog.bind_op, Prog.bind_ret, Prog.pure_eq_ret]
  iintro ⟨#Hrec, #Hlev, HO, Ht, Hr, Hx, Hl3, Hob, Ho⟩ Hk
  iapply (sum_step m ρ c (k0_off14_eq c) (inb := k0_off14_inb c) (m₂ := bM) (off₂ := k0_off13 c 1#32) (size₂ := S256x1024.size) (inb₂ := k0_off13_inb c 0)
    (pay := k0_pay4) (g := part m ρ c) (S := (rows (sb c) 256 : Finset S512x1024.Idx)) (f₂ := (tab (gB m ρ c) : S512x1024.Idx → F .f32)) (q₁ := xq0) (q₂ := fullShare)
    (bW_set (off13b c)).subset (sumB m ρ c pay4 (off13b c) (hb_sb c) (qb_le c))) $$ [Hx Hl3 Hob]
  · isplitl [Hx]; · iexact Hx
    isplitl [Hl3]; · iexact Hl3
    iexact Hob
  iintro ⟨Hx, Hl3, Hob⟩
  iapply (recv_step m ρ K c 4 [6, 7, 8, 9] rfl rfl (by decide)) $$ [HO Hr]
  · isplitr; · iexact Hrec
    isplitr; · iexact Hlev
    isplitl [HO]; · iexact HO
    iexact Hr
  iintro ⟨HO, Hz, Hpay⟩
  ihave Hpay' := (show rPay m ρ c 4 ⊢ iprop((a1L c ↦{fullShare} (tab (gA1 m ρ c) : S256x1024.Idx → F .f32)) ∗ oAny (xN c) (qa c) 256) from Entails.refl _) $$ Hpay
  icases Hpay' with ⟨Hl, ⟨%fd, Hd⟩⟩
  iapply (acc_step c (k0_off12_eq c) (inb := k0_off12_inb c) (m₂ := a1M) (off₂ := ![0, 0]) (size₂ := S256x1024.size) (inb₂ := inb_S256x1024_S256x1024_0_0)
    (pay := k0_pay5) (g₀ := part m ρ c) (g := fin m ρ) (S := (Finset.univ : Finset S256x1024.Idx)) (f₂ := (tab (gA1 m ρ c) : S256x1024.Idx → F .f32)) (q₂ := fullShare)
    (Finset.subset_univ _) (accA m ρ c pay5)) $$ [Hl Ho]
  · isplitl [Hl]; · iexact Hl
    iexact Ho
  iintro ⟨Hl, Ho⟩
  ihave Hsp := (pointsTo_share (PosShare.mem_left_op_right fullShare)).1 $$ Ho
  icases Hsp with ⟨Ho', Ho⟩
  have hp : (oL (xN c) ↦[(rows (qa c) 256 : Finset S2048x1024.Idx)]{fullShare} (oW (k0_off15 c) (k0_off15_inb c)).view.write (Elt F) fd
        ((oW (k0_off15 c) (k0_off15_inb c)).view.read (Elt F) (tab (fin m ρ) : S2048x1024.Idx → F .f32)) Finset.univ : sProp 𝕄) ⊢ rPay m ρ (xN c) 6 :=
    Entails.of_eq ((oW_put (lo := qa c) (k0_off15_eq c) (xN c) (fin m ρ) fd _ (oW_read (k0_off15_eq c) (fin m ρ))).trans
      (show _ = oPts (xN c) (qap (xN c)) 256 fullShare (fin m ρ) by rw [qap_xN]))
  iapply (send_step m ρ K c 6 [7, 8, 9] (src := oW (k0_off15 c) (k0_off15_inb c)) (dst := oW (k0_off15 c) (k0_off15_inb c))
    (Fin.ext (k0_dev9_eq c)) rfl rfl rfl (fd := fd) (fs := (tab (fin m ρ) : S2048x1024.Idx → F .f32)) (q := fullShare.left)
    (S := (rows (qa c) 256 : Finset S2048x1024.Idx)) (T := (rows (qa c) 256 : Finset S2048x1024.Idx)) (oW_set (k0_off15_eq c)) (oW_set (k0_off15_eq c)) (Entails.refl _) hp) $$ [Ho' Hd HO Ht]
  · isplitr; · iexact Hrec
    isplitl [Ho']; · iexact Ho'
    isplitl [Hd]; · iexact Hd
    isplitl [HO]; · iexact HO
    iexact Ht
  iintro ⟨Hc, HO⟩
  iapply Hk
  isplitl [Hc]; · iexact Hc
  isplitl [HO]; · iexact HO
  isplitl [Hz]; · iexact Hz
  isplitl [Hx]; · iexact Hx
  isplitl [Hl3]; · iexact Hl3
  isplitl [Hl]; · iexists _; iexact Hl
  isplitl [Hob]; · iexact Hob
  iexact Ho

theorem part8_step {α : Type} {Φ : α → sProp 𝕄} (v2 v5 v6 v7 v31 w0 : BitVec 32) {k : BitVec 32 → Prog (TpuEff nD τ sig (Elt F) Λ₀ .tc) α} :
    iprop(records m ρ K ∗ levAts L lv ∗ owesE c (owe c [7, 8, 9]) ∗ tx c 7 ∗ rx c 5 ∗ rx c 6 ∗ oPts c (qb c) 256 fullShare (part m ρ c))
      ⊢ iprop((∀ w, (sx c 7 ∗ owesE c (owe c [8, 9]) ∗ semVal (rcell c 5) 0 ∗ semVal (rcell c 6) 0 ∗ b1Any c ∗ oPts c (qb c) 256 fullShare.right (fin m ρ) ∗ oPts c (qap c) 256 fullShare (fin m ρ)) -∗ WP c (k w) Φ)
          -∗ WP c (k0_part8 xM (Memref.isWhole_whole _) oM (Memref.isWhole_whole _) aM (Memref.isWhole_whole _) a1M (Memref.isWhole_whole _)
              bM (Memref.isWhole_whole _) b1M (Memref.isWhole_whole _) cc0_scratch4 cc0_scratch5 c v2 v5 v6 v7 v31 w0 >>= k) Φ) := by
  rw [k0_part8_eq_skeleton]; unfold k0_part8_skel
  simp only [Prog.lift, bind_assoc, pure_bind, Prog.bind_op, Prog.bind_ret, Prog.pure_eq_ret]
  iintro ⟨#Hrec, #Hlev, HO, Ht, Hr, Hr6, Ho⟩ Hk
  iapply (recv_step m ρ K c 5 [7, 8, 9] rfl rfl (by decide)) $$ [HO Hr]
  · isplitr; · iexact Hrec
    isplitr; · iexact Hlev
    isplitl [HO]; · iexact HO
    iexact Hr
  iintro ⟨HO, Hz, Hpay⟩
  ihave Hpay' := (show rPay m ρ c 5 ⊢ iprop((b1L c ↦{fullShare} (tab (gB1 m ρ c) : S256x1024.Idx → F .f32)) ∗ oAny (yN c) (qb c) 256) from Entails.refl _) $$ Hpay
  icases Hpay' with ⟨Hl, ⟨%fd, Hd⟩⟩
  iapply (acc_step c (k0_off14_eq c) (inb := k0_off14_inb c) (m₂ := b1M) (off₂ := ![0, 0]) (size₂ := S256x1024.size) (inb₂ := inb_S256x1024_S256x1024_0_0)
    (pay := k0_pay6) (g₀ := part m ρ c) (g := fin m ρ) (S := (Finset.univ : Finset S256x1024.Idx)) (f₂ := (tab (gB1 m ρ c) : S256x1024.Idx → F .f32)) (q₂ := fullShare)
    (Finset.subset_univ _) (accB m ρ c pay6)) $$ [Hl Ho]
  · isplitl [Hl]; · iexact Hl
    iexact Ho
  iintro ⟨Hl, Ho⟩
  ihave Hsp := (pointsTo_share (PosShare.mem_left_op_right fullShare)).1 $$ Ho
  icases Hsp with ⟨Ho', Ho⟩
  have hp : (oL (yN c) ↦[(rows (qb c) 256 : Finset S2048x1024.Idx)]{fullShare} (oW (k0_off16 c) (k0_off16_inb c)).view.write (Elt F) fd
        ((oW (k0_off16 c) (k0_off16_inb c)).view.read (Elt F) (tab (fin m ρ) : S2048x1024.Idx → F .f32)) Finset.univ : sProp 𝕄) ⊢ rPay m ρ (yN c) 7 :=
    Entails.of_eq ((oW_put (lo := qb c) (k0_off16_eq c) (yN c) (fin m ρ) fd _ (oW_read (k0_off16_eq c) (fin m ρ))).trans
      (show _ = oPts (yN c) (qbp (yN c)) 256 fullShare (fin m ρ) by rw [qbp_yN]))
  iapply (send_step m ρ K c 7 [8, 9] (src := oW (k0_off16 c) (k0_off16_inb c)) (dst := oW (k0_off16 c) (k0_off16_inb c))
    (Fin.ext (k0_dev10_eq c)) rfl rfl rfl (fd := fd) (fs := (tab (fin m ρ) : S2048x1024.Idx → F .f32)) (q := fullShare.left)
    (S := (rows (qb c) 256 : Finset S2048x1024.Idx)) (T := (rows (qb c) 256 : Finset S2048x1024.Idx)) (oW_set (k0_off16_eq c)) (oW_set (k0_off16_eq c)) (Entails.refl _) hp) $$ [Ho' Hd HO Ht]
  · isplitr; · iexact Hrec
    isplitl [Ho']; · iexact Ho'
    isplitl [Hd]; · iexact Hd
    isplitl [HO]; · iexact HO
    iexact Ht
  iintro ⟨Hc, HO⟩
  iapply (recv_step m ρ K c 6 [8, 9] rfl rfl (by decide)) $$ [HO Hr6]
  · isplitr; · iexact Hrec
    isplitr; · iexact Hlev
    isplitl [HO]; · iexact HO
    iexact Hr6
  iintro ⟨HO, Hz6, Hpay⟩
  ihave Hpay := (show rPay m ρ c 6 ⊢ oPts c (qap c) 256 fullShare (fin m ρ) from Entails.refl _) $$ Hpay
  iapply Hk
  isplitl [Hc]; · iexact Hc
  isplitl [HO]; · iexact HO
  isplitl [Hz]; · iexact Hz
  isplitl [Hz6]; · iexact Hz6
  isplitl [Hl]; · iexists _; iexact Hl
  isplitl [Ho]; · iexact Ho
  iexact Hpay

theorem part9_step {α : Type} {Φ : α → sProp 𝕄} (v2 v5 v6 v7 w : BitVec 32) {k : PUnit → Prog (TpuEff nD τ sig (Elt F) Λ₀ .tc) α} :
    iprop(records m ρ K ∗ levAts L lv ∗ owesE c (owe c [8, 9]) ∗ tx c 8 ∗ tx c 9 ∗ rx c 7 ∗ oPts c (qa c) 256 fullShare.right (fin m ρ)
        ∗ oPts c (qap c) 256 fullShare (fin m ρ) ∗ oPts c (qb c) 256 fullShare.right (fin m ρ) ∗ oAny (yN c) (ha c) 512 ∗ oAny (xN c) (hb c) 512)
      ⊢ iprop(((sx c 8 ∗ sx c 9 ∗ owesE c (owe c []) ∗ semVal (rcell c 7) 0 ∗ oPts c (qap c) 256 fullShare.left (fin m ρ) ∗ oPts c (qbp c) 256 fullShare.left (fin m ρ)) -∗ WP c (k ⟨⟩) Φ)
          -∗ WP c (k0_part9 xM (Memref.isWhole_whole _) oM (Memref.isWhole_whole _) aM (Memref.isWhole_whole _) a1M (Memref.isWhole_whole _)
              bM (Memref.isWhole_whole _) b1M (Memref.isWhole_whole _) cc0_scratch4 cc0_scratch5 c v2 v5 v6 v7 w >>= k) Φ) := by
  rw [k0_part9_eq_skeleton]; unfold k0_part9_skel
  simp only [Prog.lift, bind_assoc, pure_bind, Prog.bind_op, Prog.bind_ret, Prog.pure_eq_ret]
  iintro ⟨#Hrec, #Hlev, HO, Ht, Ht9, Hr, Hq, Hqp, Hqb, ⟨%fd, Hd⟩, ⟨%fd9, Hd9⟩⟩ Hk
  ihave Hsp := (pointsTo_share (PosShare.mem_left_op_right fullShare)).1 $$ Hqp
  icases Hsp with ⟨Hql, Hqr⟩
  ihave Ho' := (oPts_half (qa_or c) _ _) $$ [Hq Hqr]
  · isplitl [Hq] <;> iassumption
  have hp : (oL (yN c) ↦[(rows (ha c) 512 : Finset S2048x1024.Idx)]{fullShare} (oH (k0_off17 c) (k0_off17_inb c)).view.write (Elt F) fd
        ((oH (k0_off17 c) (k0_off17_inb c)).view.read (Elt F) (tab (fin m ρ) : S2048x1024.Idx → F .f32)) Finset.univ : sProp 𝕄) ⊢ rPay m ρ (yN c) 8 :=
    Entails.of_eq ((oH_put (lo := ha c) (k0_off17_eq c) (yN c) (fin m ρ) fd _ (oH_read (k0_off17_eq c) (fin m ρ))).trans
      (show _ = oPts (yN c) (hap (yN c)) 512 fullShare (fin m ρ) by rw [hap_yN]))
  iapply (send_step m ρ K c 8 [9] (src := oH (k0_off17 c) (k0_off17_inb c)) (dst := oH (k0_off17 c) (k0_off17_inb c))
    (Fin.ext (k0_dev11_eq c)) rfl rfl rfl (fd := fd) (fs := (tab (fin m ρ) : S2048x1024.Idx → F .f32)) (q := fullShare.right)
    (S := (rows (ha c) 512 : Finset S2048x1024.Idx)) (T := (rows (ha c) 512 : Finset S2048x1024.Idx)) (oH_set (k0_off17_eq c)) (oH_set (k0_off17_eq c)) (Entails.refl _) hp) $$ [Ho' Hd HO Ht]
  · isplitr; · iexact Hrec
    isplitl [Ho']; · iexact Ho'
    isplitl [Hd]; · iexact Hd
    isplitl [HO]; · iexact HO
    iexact Ht
  iintro ⟨Hc, HO⟩
  iapply (recv_step m ρ K c 7 [9] rfl rfl (by decide)) $$ [HO Hr]
  · isplitr; · iexact Hrec
    isplitr; · iexact Hlev
    isplitl [HO]; · iexact HO
    iexact Hr
  iintro ⟨HO, Hz, Hqp⟩
  ihave Hqp := (show rPay m ρ c 7 ⊢ oPts c (qbp c) 256 fullShare (fin m ρ) from Entails.refl _) $$ Hqp
  ihave Hsp := (pointsTo_share (PosShare.mem_left_op_right fullShare)).1 $$ Hqp
  icases Hsp with ⟨Hql', Hqr⟩
  ihave Ho' := (oPts_half (qb_or c) _ _) $$ [Hqb Hqr]
  · isplitl [Hqb] <;> iassumption
  have hp : (oL (xN c) ↦[(rows (hb c) 512 : Finset S2048x1024.Idx)]{fullShare} (oH (k0_off18 c) (k0_off18_inb c)).view.write (Elt F) fd9
        ((oH (k0_off18 c) (k0_off18_inb c)).view.read (Elt F) (tab (fin m ρ) : S2048x1024.Idx → F .f32)) Finset.univ : sProp 𝕄) ⊢ rPay m ρ (xN c) 9 :=
    Entails.of_eq ((oH_put (lo := hb c) (k0_off18_eq c) (xN c) (fin m ρ) fd9 _ (oH_read (k0_off18_eq c) (fin m ρ))).trans
      (show _ = oPts (xN c) (hbp (xN c)) 512 fullShare (fin m ρ) by rw [hbp_xN]))
  iapply (send_step m ρ K c 9 [] (src := oH (k0_off18 c) (k0_off18_inb c)) (dst := oH (k0_off18 c) (k0_off18_inb c))
    (Fin.ext (k0_dev12_eq c)) rfl rfl rfl (fd := fd9) (fs := (tab (fin m ρ) : S2048x1024.Idx → F .f32)) (q := fullShare.right)
    (S := (rows (hb c) 512 : Finset S2048x1024.Idx)) (T := (rows (hb c) 512 : Finset S2048x1024.Idx)) (oH_set (k0_off18_eq c)) (oH_set (k0_off18_eq c)) (Entails.refl _) hp) $$ [Ho' Hd9 HO Ht9]
  · isplitr; · iexact Hrec
    isplitl [Ho']; · iexact Ho'
    isplitl [Hd9]; · iexact Hd9
    isplitl [HO]; · iexact HO
    iexact Ht9
  iintro ⟨Hc9, HO⟩
  iapply Hk
  isplitl [Hc]; · iexact Hc
  isplitl [Hc9]; · iexact Hc9
  isplitl [HO]; · iexact HO
  isplitl [Hz]; · iexact Hz
  isplitl [Hql]; · iexact Hql
  iexact Hql'

theorem part10_step {α : Type} {Φ : α → sProp 𝕄} (v5 v7 : BitVec 32) {k : PUnit → Prog (TpuEff nD τ sig (Elt F) Λ₀ .tc) α} :
    iprop(records m ρ K ∗ levAts L lv ∗ owesE c (owe c []) ∗ rx c 8 ∗ rx c 9 ∗ sx c 0 ∗ atPos ER (scell c 0) 0 ∅ 0 ∗ sx c 1 ∗ atPos ER (scell c 1) 0 ∅ 0)
      ⊢ iprop(((owesE c (owe c []) ∗ semVal (rcell c 8) 0 ∗ rPay m ρ c 8 ∗ semVal (rcell c 9) 0 ∗ rPay m ρ c 9 ∗ semVal (scell c 0) 0 ∗ sPay m ρ c 0 ∗ semVal (scell c 1) 0 ∗ sPay m ρ c 1) -∗ WP c (k ⟨⟩) Φ)
          -∗ WP c (k0_part10 xM (Memref.isWhole_whole _) oM (Memref.isWhole_whole _) aM (Memref.isWhole_whole _) a1M (Memref.isWhole_whole _)
              bM (Memref.isWhole_whole _) b1M (Memref.isWhole_whole _) cc0_scratch4 cc0_scratch5 c v5 v7 >>= k) Φ) := by
  rw [k0_part10_eq_skeleton]; unfold k0_part10_skel
  simp only [Prog.lift, bind_assoc, pure_bind, Prog.bind_op, Prog.bind_ret, Prog.pure_eq_ret]
  iintro ⟨#Hrec, #Hlev, HO, Hr, Hr9, Hs0, Hat0, Hs1, Hat1⟩ Hk
  iapply (recv_step m ρ K c 8 [] rfl rfl (by decide)) $$ [HO Hr]
  · isplitr; · iexact Hrec
    isplitr; · iexact Hlev
    isplitl [HO]; · iexact HO
    iexact Hr
  iintro ⟨HO, Hz, Hp⟩
  iapply (recv_step m ρ K c 9 [] rfl rfl (by decide)) $$ [HO Hr9]
  · isplitr; · iexact Hrec
    isplitr; · iexact Hlev
    isplitl [HO]; · iexact HO
    iexact Hr9
  iintro ⟨HO, Hz9, Hp9⟩
  iapply (sent_step m ρ K c 0 rfl rfl) $$ [HO Hs0 Hat0]
  · isplitr; · iexact Hrec
    isplitl [HO]; · iexact HO
    isplitl [Hs0]; · iexact Hs0
    iexact Hat0
  iintro ⟨HO, Hz0, Hp0⟩
  iapply (sent_step m ρ K c 1 rfl rfl) $$ [HO Hs1 Hat1]
  · isplitr; · iexact Hrec
    isplitl [HO]; · iexact HO
    isplitl [Hs1]; · iexact Hs1
    iexact Hat1
  iintro ⟨HO, Hz1, Hp1⟩
  iapply Hk
  isplitl [HO]; · iexact HO
  isplitl [Hz]; · iexact Hz
  isplitl [Hp]; · iexact Hp
  isplitl [Hz9]; · iexact Hz9
  isplitl [Hp9]; · iexact Hp9
  isplitl [Hz0]; · iexact Hz0
  isplitl [Hp0]; · iexact Hp0
  isplitl [Hz1]; · iexact Hz1
  iexact Hp1

theorem part11_step {α : Type} {Φ : α → sProp 𝕄} {k : PUnit → Prog (TpuEff nD τ sig (Elt F) Λ₀ .tc) α} :
    iprop(records m ρ K ∗ owesE c (owe c []) ∗ sx c 2 ∗ atPos ER (scell c 2) 0 ∅ 0
        ∗ sx c 3 ∗ atPos ER (scell c 3) 0 ∅ 0
        ∗ sx c 4 ∗ atPos ER (scell c 4) 0 ∅ 0
        ∗ sx c 5 ∗ atPos ER (scell c 5) 0 ∅ 0
        ∗ sx c 6 ∗ atPos ER (scell c 6) 0 ∅ 0)
      ⊢ iprop(((owesE c (owe c []) ∗ semVal (scell c 2) 0 ∗ sPay m ρ c 2 ∗ semVal (scell c 3) 0 ∗ sPay m ρ c 3 ∗ semVal (scell c 4) 0 ∗ sPay m ρ c 4 ∗ semVal (scell c 5) 0 ∗ sPay m ρ c 5 ∗ semVal (scell c 6) 0 ∗ sPay m ρ c 6) -∗ WP c (k ⟨⟩) Φ)
          -∗ WP c (k0_part11 xM (Memref.isWhole_whole _) oM (Memref.isWhole_whole _) aM (Memref.isWhole_whole _) a1M (Memref.isWhole_whole _)
              bM (Memref.isWhole_whole _) b1M (Memref.isWhole_whole _) cc0_scratch4 cc0_scratch5 c >>= k) Φ) := by
  rw [k0_part11_eq_skeleton]; unfold k0_part11_skel
  simp only [Prog.lift, bind_assoc, pure_bind, Prog.bind_op, Prog.bind_ret, Prog.pure_eq_ret]
  iintro ⟨#Hrec, HO, Hs2, Hat2, Hs3, Hat3, Hs4, Hat4, Hs5, Hat5, Hs6, Hat6⟩ Hk
  iapply (sent_step m ρ K c 2 rfl rfl) $$ [HO Hs2 Hat2]
  · isplitr; · iexact Hrec
    isplitl [HO]; · iexact HO
    isplitl [Hs2]; · iexact Hs2
    iexact Hat2
  iintro ⟨HO, Hz2, Hp2⟩
  iapply (sent_step m ρ K c 3 rfl rfl) $$ [HO Hs3 Hat3]
  · isplitr; · iexact Hrec
    isplitl [HO]; · iexact HO
    isplitl [Hs3]; · iexact Hs3
    iexact Hat3
  iintro ⟨HO, Hz3, Hp3⟩
  iapply (sent_step m ρ K c 4 rfl rfl) $$ [HO Hs4 Hat4]
  · isplitr; · iexact Hrec
    isplitl [HO]; · iexact HO
    isplitl [Hs4]; · iexact Hs4
    iexact Hat4
  iintro ⟨HO, Hz4, Hp4⟩
  iapply (sent_step m ρ K c 5 rfl rfl) $$ [HO Hs5 Hat5]
  · isplitr; · iexact Hrec
    isplitl [HO]; · iexact HO
    isplitl [Hs5]; · iexact Hs5
    iexact Hat5
  iintro ⟨HO, Hz5, Hp5⟩
  iapply (sent_step m ρ K c 6 rfl rfl) $$ [HO Hs6 Hat6]
  · isplitr; · iexact Hrec
    isplitl [HO]; · iexact HO
    isplitl [Hs6]; · iexact Hs6
    iexact Hat6
  iintro ⟨HO, Hz6, Hp6⟩
  iapply Hk
  isplitl [HO]; · iexact HO
  isplitl [Hz2]; · iexact Hz2
  isplitl [Hp2]; · iexact Hp2
  isplitl [Hz3]; · iexact Hz3
  isplitl [Hp3]; · iexact Hp3
  isplitl [Hz4]; · iexact Hz4
  isplitl [Hp4]; · iexact Hp4
  isplitl [Hz5]; · iexact Hz5
  isplitl [Hp5]; · iexact Hp5
  isplitl [Hz6]; · iexact Hz6
  iexact Hp6

end Parts

end Cert.KernelIdeal.Exchange
-- ==== Proof.OnKernelIdeal.Body.lean ====
/-
The body of the kernel at a symbolic device: its buffers split into the bands the transfers use, the parts in order, and
the bands put together again.
-/
module

public import proofs.«01_k».proof.Proof.OnKernelIdeal.Parts

@[expose] public section

noncomputable section

namespace Cert.KernelIdeal.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The operand, split by shares -/

/-- What a device keeps of the share a transfer reads at. -/
abbrev xRem (c : Dev nD) (k : Fin 4) : sProp 𝕄 := xL c ↦[Finset.univ \ xset c k]{xq k} xstg m ρ c

theorem x_part (c : Dev nD) (k : Fin 4) : (xL c ↦{xq k} xstg m ρ c : sProp 𝕄) ⊣⊢ iprop(xPart m ρ c k ∗ xRem m ρ c k) :=
  pointsTo_split_subset (Finset.subset_univ _)

theorem x_split (c : Dev nD) : (xL c ↦{fullShare} xstg m ρ c : sProp 𝕄)
    ⊢ iprop(xHold m ρ c ∗ (xPart m ρ c 0 ∗ xRem m ρ c 0) ∗ (xPart m ρ c 1 ∗ xRem m ρ c 1) ∗ (xPart m ρ c 2 ∗ xRem m ρ c 2) ∗ (xPart m ρ c 3 ∗ xRem m ρ c 3)) := by
  iintro H
  ihave H := (pointsTo_share (PosShare.mem_left_op_right fullShare)).1 $$ H
  icases H with ⟨H0, H⟩
  isplitl [H0]; · iexact H0
  ihave H := (pointsTo_share (PosShare.mem_left_op_right fullShare.right)).1 $$ H
  icases H with ⟨H0, H⟩
  isplitl [H0]; · iapply (x_part m ρ c 0).1; iexact H0
  ihave H := (pointsTo_share (PosShare.mem_left_op_right fullShare.right.right)).1 $$ H
  icases H with ⟨H0, H⟩
  isplitl [H0]; · iapply (x_part m ρ c 1).1; iexact H0
  ihave H := (pointsTo_share (PosShare.mem_left_op_right fullShare.right.right.right)).1 $$ H
  icases H with ⟨H0, H⟩
  isplitl [H0]; · iapply (x_part m ρ c 2).1; iexact H0
  iapply (x_part m ρ c 3).1; iexact H

theorem x_join (c : Dev nD) :
    iprop(xHold m ρ c ∗ (xPart m ρ c 0 ∗ xRem m ρ c 0) ∗ (xPart m ρ c 1 ∗ xRem m ρ c 1) ∗ (xPart m ρ c 2 ∗ xRem m ρ c 2) ∗ (xPart m ρ c 3 ∗ xRem m ρ c 3))
      ⊢ (xL c ↦{fullShare} xstg m ρ c : sProp 𝕄) := by
  iintro ⟨H, H0, H1, H2, H3⟩
  ihave H0 := (x_part m ρ c 0).2 $$ H0
  ihave H1 := (x_part m ρ c 1).2 $$ H1
  ihave H2 := (x_part m ρ c 2).2 $$ H2
  ihave H3 := (x_part m ρ c 3).2 $$ H3
  iapply (pointsTo_share (PosShare.mem_left_op_right fullShare)).2
  isplitl [H]; · iexact H
  iapply (pointsTo_share (PosShare.mem_left_op_right fullShare.right)).2
  isplitl [H0]; · iexact H0
  iapply (pointsTo_share (PosShare.mem_left_op_right fullShare.right.right)).2
  isplitl [H1]; · iexact H1
  iapply (pointsTo_share (PosShare.mem_left_op_right fullShare.right.right.right)).2
  isplitl [H2]; · iexact H2
  iexact H3

/-! ## Bands of a buffer, split and joined -/

section Bands
variable {c : Dev nD} {lo n lo' n' lo'' n'' : ℕ} (h : (lo = lo'' ∧ lo' = lo + n ∨ lo' = lo'' ∧ lo = lo' + n') ∧ n'' = n + n')
  (q : PosShare TreeShare)
include h

theorem o_cut (f : S2048x1024.Idx → F .f32) : (oL c ↦[(rows lo'' n'' : Finset S2048x1024.Idx)]{q} f : sProp 𝕄)
    ⊣⊢ iprop((oL c ↦[(rows lo n : Finset S2048x1024.Idx)]{q} f) ∗ oL c ↦[(rows lo' n' : Finset S2048x1024.Idx)]{q} f) := by
  rw [← rows_union (N := 2048) h]; exact pointsTo_union (ℓ := oL c) (rows_disjoint (by omega))
theorem a_cut (f : S512x1024.Idx → F .f32) : (aL c ↦[(rows lo'' n'' : Finset S512x1024.Idx)]{q} f : sProp 𝕄)
    ⊣⊢ iprop((aL c ↦[(rows lo n : Finset S512x1024.Idx)]{q} f) ∗ aL c ↦[(rows lo' n' : Finset S512x1024.Idx)]{q} f) := by
  rw [← rows_union (N := 512) h]; exact pointsTo_union (ℓ := aL c) (rows_disjoint (by omega))
theorem b_cut (f : S512x1024.Idx → F .f32) : (bL c ↦[(rows lo'' n'' : Finset S512x1024.Idx)]{q} f : sProp 𝕄)
    ⊣⊢ iprop((bL c ↦[(rows lo n : Finset S512x1024.Idx)]{q} f) ∗ bL c ↦[(rows lo' n' : Finset S512x1024.Idx)]{q} f) := by
  rw [← rows_union (N := 512) h]; exact pointsTo_union (ℓ := bL c) (rows_disjoint (by omega))
end Bands

theorem halves (lo lo' n N : ℕ) (h : (lo = 0 ∧ lo' = n ∨ lo' = 0 ∧ lo = n) ∧ N = n + n) :
    (lo = 0 ∧ lo' = lo + n ∨ lo' = 0 ∧ lo = lo' + n) ∧ N = n + n := by omega

theorem fa_cut : ∀ c, (fa c = 0 ∧ sa c = fa c + 256 ∨ sa c = 0 ∧ fa c = sa c + 256) ∧ 512 = 256 + 256 := by decide
theorem fb_cut : ∀ c, (fb c = 0 ∧ sb c = fb c + 256 ∨ sb c = 0 ∧ fb c = sb c + 256) ∧ 512 = 256 + 256 := by decide
theorem ha_cut : ∀ c, (ha c = 0 ∧ hap c = ha c + 512 ∨ hap c = 0 ∧ ha c = hap c + 512) ∧ 1024 = 512 + 512 := by decide
theorem hb_cut : ∀ c, (hb c = 1024 ∧ hbp c = hb c + 512 ∨ hbp c = 1024 ∧ hb c = hbp c + 512) ∧ 1024 = 512 + 512 := by decide
theorem qa_cut : ∀ c, (qa c = ha c ∧ qap c = qa c + 256 ∨ qap c = ha c ∧ qa c = qap c + 256) ∧ 512 = 256 + 256 := by decide
theorem qb_cut : ∀ c, (qb c = hb c ∧ qbp c = qb c + 256 ∨ qbp c = hb c ∧ qb c = qbp c + 256) ∧ 512 = 256 + 256 := by decide
theorem all_cut : ((0 : ℕ) = 0 ∧ 1024 = 0 + 1024 ∨ 1024 = 0 ∧ 0 = 1024 + 1024) ∧ 2048 = 1024 + 1024 := by decide

theorem o_split (c : Dev nD) : iprop(∃ f, oL c ↦{fullShare} f)
    ⊢ (iprop((oAny c (qa c) 256 ∗ oAny c (qap c) 256 ∗ oAny c (qb c) 256 ∗ oAny c (qbp c) 256) ∗ oAny c (hap c) 512 ∗ oAny c (hbp c) 512) : sProp 𝕄) := by
  iintro ⟨%f, H⟩
  ihave H := (Entails.of_eq (show (oL c ↦{fullShare} f : sProp 𝕄) = oL c ↦[(rows 0 2048 : Finset S2048x1024.Idx)]{fullShare} f by rw [rows_all])) $$ H
  ihave H := (o_cut all_cut fullShare f).1 $$ H
  icases H with ⟨Ha, Hb⟩
  ihave Ha := (o_cut (ha_cut c) fullShare f).1 $$ Ha
  icases Ha with ⟨Ha, Hap⟩
  ihave Hb := (o_cut (hb_cut c) fullShare f).1 $$ Hb
  icases Hb with ⟨Hb, Hbp⟩
  ihave Ha := (o_cut (qa_cut c) fullShare f).1 $$ Ha
  icases Ha with ⟨Hqa, Hqap⟩
  ihave Hb := (o_cut (qb_cut c) fullShare f).1 $$ Hb
  icases Hb with ⟨Hqb, Hqbp⟩
  isplitl [Hqa Hqap Hqb Hqbp]
  · isplitl [Hqa]; · iexists f; iexact Hqa
    isplitl [Hqap]; · iexists f; iexact Hqap
    isplitl [Hqb]; · iexists f; iexact Hqb
    iexists f; iexact Hqbp
  isplitl [Hap]; · iexists f; iexact Hap
  iexists f; iexact Hbp

theorem o_join (c : Dev nD) (g : ℕ → ℕ → F .f32) :
    iprop((oPts c (qa c) 256 fullShare.left g ∗ oPts c (qap c) 256 fullShare.left g ∗ oPts c (ha c) 512 fullShare.right g)
        ∗ (oPts c (qb c) 256 fullShare.left g ∗ oPts c (qbp c) 256 fullShare.left g ∗ oPts c (hb c) 512 fullShare.right g)
        ∗ oPts c (hap c) 512 fullShare g ∗ oPts c (hbp c) 512 fullShare g)
      ⊢ (oL c ↦{fullShare} (tab g : S2048x1024.Idx → F .f32) : sProp 𝕄) := by
  rw [show (oL c ↦{fullShare} (tab g : S2048x1024.Idx → F .f32) : sProp 𝕄) = oPts c 0 2048 fullShare g by unfold oPts; rw [rows_all]]
  iintro ⟨⟨Hqa, Hqap, Hha⟩, ⟨Hqb, Hqbp, Hhb⟩, Hap, Hbp⟩
  iapply (o_cut all_cut fullShare (tab g)).2
  isplitl [Hqa Hqap Hha Hap]
  · iapply (o_cut (ha_cut c) fullShare (tab g)).2
    isplitr [Hap]
    · iapply (pointsTo_share (PosShare.mem_left_op_right fullShare)).2
      isplitr [Hha]
      · iapply (o_cut (qa_cut c) fullShare.left (tab g)).2
        isplitl [Hqa] <;> iassumption
      iexact Hha
    iexact Hap
  iapply (o_cut (hb_cut c) fullShare (tab g)).2
  isplitr [Hbp]
  · iapply (pointsTo_share (PosShare.mem_left_op_right fullShare)).2
    isplitr [Hhb]
    · iapply (o_cut (qb_cut c) fullShare.left (tab g)).2
      isplitl [Hqb] <;> iassumption
    iexact Hhb
  iexact Hbp

theorem a_split (d c : Dev nD) : iprop(∃ f, aL d ↦{fullShare} f) ⊢ (iprop(aAny d (fa c) ∗ aAny d (sa c)) : sProp 𝕄) := by
  iintro ⟨%f, H⟩
  ihave H := (Entails.of_eq (show (aL d ↦{fullShare} f : sProp 𝕄) = aL d ↦[(rows 0 512 : Finset S512x1024.Idx)]{fullShare} f by rw [rows_all])) $$ H
  ihave H := (a_cut (fa_cut c) fullShare f).1 $$ H
  icases H with ⟨H1, H2⟩
  isplitl [H1]; · iexists f; iexact H1
  iexists f; iexact H2
theorem b_split (d c : Dev nD) : iprop(∃ f, bL d ↦{fullShare} f) ⊢ (iprop(bAny d (fb c) ∗ bAny d (sb c)) : sProp 𝕄) := by
  iintro ⟨%f, H⟩
  ihave H := (Entails.of_eq (show (bL d ↦{fullShare} f : sProp 𝕄) = bL d ↦[(rows 0 512 : Finset S512x1024.Idx)]{fullShare} f by rw [rows_all])) $$ H
  ihave H := (b_cut (fb_cut c) fullShare f).1 $$ H
  icases H with ⟨H1, H2⟩
  isplitl [H1]; · iexists f; iexact H1
  iexists f; iexact H2
theorem a_join (c : Dev nD) : iprop(la m ρ c (fa c) ∗ la m ρ c (sa c)) ⊢ (iprop(∃ f, aL c ↦{fullShare} f) : sProp 𝕄) := by
  iintro H
  ihave H := (a_cut (fa_cut c) fullShare (tab (gA m ρ c))).2 $$ H
  iexists (tab (gA m ρ c) : S512x1024.Idx → F .f32)
  rw [rows_all]; iexact H
theorem b_join (c : Dev nD) : iprop(lb m ρ c (fb c) ∗ lb m ρ c (sb c)) ⊢ (iprop(∃ f, bL c ↦{fullShare} f) : sProp 𝕄) := by
  iintro H
  ihave H := (b_cut (fb_cut c) fullShare (tab (gB m ρ c))).2 $$ H
  iexists (tab (gB m ρ c) : S512x1024.Idx → F .f32)
  rw [rows_all]; iexact H

/-! ## What a barrier hands over -/

theorem give_y (c : Dev nD) : iprop((∃ f, aL c ↦{fullShare} f) ∗ (∃ f, b1L c ↦{fullShare} f) ∗ oAny c (hap c) 512) ⊢ (barPay (yN c) false : sProp 𝕄) := by
  unfold barPay; rw [yN_yN, ha_yN]
theorem give_x (c : Dev nD) : iprop((∃ f, bL c ↦{fullShare} f) ∗ (∃ f, a1L c ↦{fullShare} f) ∗ oAny c (hbp c) 512) ⊢ (barPay (xN c) true : sProp 𝕄) := by
  unfold barPay; rw [xN_xN, hb_xN]
theorem take_y (c : Dev nD) : (barPay c false : sProp 𝕄) ⊢ iprop((aAny (yN c) (fa c) ∗ aAny (yN c) (sa c)) ∗ b1Any (yN c) ∗ oAny (yN c) (ha c) 512) :=
  sep_mono_left (a_split (yN c) c)
theorem take_x (c : Dev nD) : (barPay c true : sProp 𝕄) ⊢ iprop((bAny (xN c) (fb c) ∗ bAny (xN c) (sb c)) ∗ a1Any (xN c) ∗ oAny (xN c) (hb c) 512) :=
  sep_mono_left (b_split (xN c) c)

/-! ## The pipeline's data -/

theorem sep10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ

/-- What device `c` works with beside its buffers: the cells' records, the tokens of the duties it pays, its positions. -/
def ghost (K : Dev nD × Fin 21 → ℕ) (c : Dev nD) : sProp 𝕄 :=
  iprop(records m ρ K ∗ (dutyTok ER (bcell (yN c)) 0 false ∗ dutyTok ER (bcell (xN c)) 0 true ∗ bigSep Finset.univ fun k : Fin 10 => tx c k)
    ∗ atPos ER (bcell c) 0 ∅ 0 ∗ (bigSep Finset.univ fun k : Fin 10 => atPos ER (scell c k) 0 ∅ 0) ∗ bigSep Finset.univ fun k : Fin 10 => atPos ER (rcell c k) 0 ∅ 0)
/-- The credit it starts with. -/
def credits (c : Dev nD) : sProp 𝕄 :=
  iprop(cred (tallyAt (bcell c) () 2) ∗ bigSep Finset.univ fun k : Fin 10 => cred (tallyAt (rcell c k) () (amt k)))
def start (c : Dev nD) : sProp 𝕄 := iprop((∃ K, ghost m ρ K c) ∗ credits c ∗ levAts L lv)
/-- The four landing buffers at any contents. -/
def scratches (c : Dev nD) : sProp 𝕄 :=
  iprop((∃ f, aL c ↦{fullShare} f) ∗ (∃ f, a1L c ↦{fullShare} f) ∗ (∃ f, bL c ↦{fullShare} f) ∗ ∃ f, b1L c ↦{fullShare} f)
def Φ₀ (c : Dev nD) : sProp 𝕄 := iprop(start m ρ c ∗ scratches c)
/-- At the end every counter of the device's cells is zero. -/
def Φ₁ (c : Dev nD) : sProp 𝕄 :=
  iprop(scratches c ∗ semVal (bcell c) 0 ∗ (bigSep Finset.univ fun k : Fin 10 => semVal (scell c k) 0) ∗ bigSep Finset.univ fun k : Fin 10 => semVal (rcell c k) 0)

/-- The result, as the staging buffer holds it. -/
def outAt (c : Dev nD) : (cc0_stg1_0 : Ref sig .tc).ty.Contents (Elt F) := (tab (fin m ρ) : S2048x1024.Idx → F .f32)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_x (t : Fin cfg0.N) : (cfg0.win (0 : Fin 2)).fetch t = true := by rw [fin_N0 t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body from its bands to its bands. -/
theorem body_run (K : Dev nD × Fin 21 → ℕ) (c : Dev nD) {Φ : PUnit → sProp 𝕄} :
    iprop((records m ρ K ∗ levAts L lv ∗ owesE c (O₀ c)) ∗ (xL c ↦{fullShare} xstg m ρ c) ∗ (∃ f, oL c ↦{fullShare} f) ∗ scratches c
        ∗ (dutyTok ER (bcell (yN c)) 0 false ∗ dutyTok ER (bcell (xN c)) 0 true ∗ cred (tallyAt (bcell c) () 2) ∗ atPos ER (bcell c) 0 ∅ 0)
        ∗ (tx c 0 ∗ tx c 1 ∗ tx c 2 ∗ tx c 3 ∗ tx c 4 ∗ tx c 5 ∗ tx c 6 ∗ tx c 7 ∗ tx c 8 ∗ tx c 9)
        ∗ (rx c 0 ∗ rx c 1 ∗ rx c 2 ∗ rx c 3 ∗ rx c 4 ∗ rx c 5 ∗ rx c 6 ∗ rx c 7 ∗ rx c 8 ∗ rx c 9)
        ∗ (atPos ER (scell c 0) 0 ∅ 0 ∗ atPos ER (scell c 1) 0 ∅ 0 ∗ atPos ER (scell c 2) 0 ∅ 0 ∗ atPos ER (scell c 3) 0 ∅ 0 ∗ atPos ER (scell c 4) 0 ∅ 0 ∗ atPos ER (scell c 5) 0 ∅ 0 ∗ atPos ER (scell c 6) 0 ∅ 0 ∗ atPos ER (scell c 7) 0 ∅ 0 ∗ atPos ER (scell c 8) 0 ∅ 0 ∗ atPos ER (scell c 9) 0 ∅ 0))
      ⊢ iprop(((owesE c (owe c []) ∗ (xL c ↦{fullShare} xstg m ρ c) ∗ (oL c ↦{fullShare} (tab (fin m ρ) : S2048x1024.Idx → F .f32)) ∗ Φ₁ c) -∗ Φ ⟨⟩)
          -∗ WP c (cc0_body xM (Memref.isWhole_whole _) oM (Memref.isWhole_whole _) aM (Memref.isWhole_whole _) a1M (Memref.isWhole_whole _)
          bM (Memref.isWhole_whole _) b1M (Memref.isWhole_whole _) cc0_scratch4 cc0_scratch5) Φ) := by
  simp only [cc0_body_eq_skeleton]; unfold cc0_body_skel scratches
  iintro ⟨⟨#Hrec, #Hlev, HO⟩, Hx, Ho, ⟨Ha, Ha1, Hb, Hb1⟩, ⟨Hty, Htx, Hcb, Hatb⟩, ⟨Ht0, Ht1, Ht2, Ht3, Ht4, Ht5, Ht6, Ht7, Ht8, Ht9⟩, ⟨Hr0, Hr1, Hr2, Hr3, Hr4, Hr5, Hr6, Hr7, Hr8, Hr9⟩, ⟨Hat0, Hat1, Hat2, Hat3, Hat4, Hat5, Hat6, Hat7, Hat8, Hat9⟩⟩ Hk
  ihave Hx := (x_split m ρ c) $$ Hx
  icases Hx with ⟨Hx, ⟨Hx0, Hm0⟩, ⟨Hx1, Hm1⟩, ⟨Hx2, Hm2⟩, ⟨Hx3, Hm3⟩⟩
  ihave Ho := (o_split c) $$ Ho
  icases Ho with ⟨⟨Hqa, Hqap, Hqb, Hqbp⟩, Hhap, Hhbp⟩
  ihave Hgy := (give_y (F := F) c) $$ [Ha Hb1 Hhap]
  · isplitl [Ha]; · iexact Ha
    isplitl [Hb1]; · iexact Hb1
    iexact Hhap
  ihave Hgx := (give_x (F := F) c) $$ [Hb Ha1 Hhbp]
  · isplitl [Hb]; · iexact Hb
    isplitl [Ha1]; · iexact Ha1
    iexact Hhbp
  iapply (part1_step m ρ K c) $$ [HO Hty Htx Hgy Hgx Hcb Hatb]
  · isplitr; · iexact Hrec
    isplitr; · iexact Hlev
    isplitl [HO]; · iexact HO
    isplitl [Hty]; · iexact Hty
    isplitl [Htx]; · iexact Htx
    isplitl [Hgy]; · iexact Hgy
    isplitl [Hgx]; · iexact Hgx
    isplitl [Hcb]; · iexact Hcb
    iexact Hatb
  iintro %v2 %v5 %v6 %v7 %v19 %v21 %v24 %v26 %v28 %w ⟨HO, Hzb, Hgy, Hgx⟩
  ihave Hgy := (take_y (F := F) c) $$ Hgy
  icases Hgy with ⟨⟨Haf, Has⟩, Hb1, Hoy⟩
  ihave Hgx := (take_x (F := F) c) $$ Hgx
  icases Hgx with ⟨⟨Hbf, Hbs⟩, Ha1, Hox⟩
  iapply (part2_step m ρ K c _ _ _ _ _ _ _) $$ [Hx0 Haf HO Ht0]
  · isplitr; · iexact Hrec
    isplitl [Hx0]; · iexact Hx0
    isplitl [Haf]; · iexact Haf
    isplitl [HO]; · iexact HO
    iexact Ht0
  iintro %v31 %v34 %v36 %v37 %v39 %v40 ⟨Hs0, HO⟩
  iapply (part3_step m ρ K c _ _) $$ [Hx1 Hx2 Has Hbf HO Ht1 Ht2]
  · isplitr; · iexact Hrec
    isplitl [Hx1]; · iexact Hx1
    isplitl [Hx2]; · iexact Hx2
    isplitl [Has]; · iexact Has
    isplitl [Hbf]; · iexact Hbf
    isplitl [HO]; · iexact HO
    isplitl [Ht1]; · iexact Ht1
    iexact Ht2
  iintro ⟨Hs1, Hs2, HO⟩
  iapply (part4_step m ρ K c _ _ _ _ _ _) $$ [Hx3 Hbs HO Ht3 Ht4 Hr0 Hx Hqap Ha1]
  · isplitr; · iexact Hrec
    isplitr; · iexact Hlev
    isplitl [Hx3]; · iexact Hx3
    isplitl [Hbs]; · iexact Hbs
    isplitl [HO]; · iexact HO
    isplitl [Ht3]; · iexact Ht3
    isplitl [Ht4]; · iexact Ht4
    isplitl [Hr0]; · iexact Hr0
    isplitl [Hx]; · iexact Hx
    isplitl [Hqap]; · iexact Hqap
    iexact Ha1
  iintro ⟨Hs3, Hs4, HO, Hz0, Hx, Hl0⟩
  iapply (part5_step m ρ K c _ _ _ _ _ _) $$ [HO Ht5 Hr2 Hx Hqbp Hb1]
  · isplitr; · iexact Hrec
    isplitr; · iexact Hlev
    isplitl [HO]; · iexact HO
    isplitl [Ht5]; · iexact Ht5
    isplitl [Hr2]; · iexact Hr2
    isplitl [Hx]; · iexact Hx
    isplitl [Hqbp]; · iexact Hqbp
    iexact Hb1
  iintro %w1 %w2 ⟨Hs5, HO, Hz2, Hx, Hl2⟩
  iapply (part6_step m ρ K c _ _ _ _ _ _ _) $$ [HO Hr1 Hr3 Hx Hqa]
  · isplitr; · iexact Hrec
    isplitr; · iexact Hlev
    isplitl [HO]; · iexact HO
    isplitl [Hr1]; · iexact Hr1
    isplitl [Hr3]; · iexact Hr3
    isplitl [Hx]; · iexact Hx
    iexact Hqa
  iintro ⟨HO, Hz1, Hz3, Hx, Hl1, Hl3, Hqa⟩
  iapply (part7_step m ρ K c _ _ _ _ _) $$ [HO Ht6 Hr4 Hx Hl3 Hqb Hqa]
  · isplitr; · iexact Hrec
    isplitr; · iexact Hlev
    isplitl [HO]; · iexact HO
    isplitl [Ht6]; · iexact Ht6
    isplitl [Hr4]; · iexact Hr4
    isplitl [Hx]; · iexact Hx
    isplitl [Hl3]; · iexact Hl3
    isplitl [Hqb]; · iexact Hqb
    iexact Hqa
  iintro %w3 ⟨Hs6, HO, Hz4, Hx, Hl3, Ha1, Hqb, Hqa⟩
  iapply (part8_step m ρ K c _ _ _ _ _ _) $$ [HO Ht7 Hr5 Hr6 Hqb]
  · isplitr; · iexact Hrec
    isplitr; · iexact Hlev
    isplitl [HO]; · iexact HO
    isplitl [Ht7]; · iexact Ht7
    isplitl [Hr5]; · iexact Hr5
    isplitl [Hr6]; · iexact Hr6
    iexact Hqb
  iintro %w4 ⟨Hs7, HO, Hz5, Hz6, Hb1, Hqb, Hqap⟩
  iapply (part9_step m ρ K c _ _ _ _ _) $$ [HO Ht8 Ht9 Hr7 Hqa Hqap Hqb Hoy Hox]
  · isplitr; · iexact Hrec
    isplitr; · iexact Hlev
    isplitl [HO]; · iexact HO
    isplitl [Ht8]; · iexact Ht8
    isplitl [Ht9]; · iexact Ht9
    isplitl [Hr7]; · iexact Hr7
    isplitl [Hqa]; · iexact Hqa
    isplitl [Hqap]; · iexact Hqap
    isplitl [Hqb]; · iexact Hqb
    isplitl [Hoy]; · iexact Hoy
    iexact Hox
  iintro ⟨Hs8, Hs9, HO, Hz7, Hqap, Hqbp⟩
  iapply (part10_step m ρ K c _ _) $$ [HO Hr8 Hr9 Hs0 Hat0 Hs1 Hat1]
  · isplitr; · iexact Hrec
    isplitr; · iexact Hlev
    isplitl [HO]; · iexact HO
    isplitl [Hr8]; · iexact Hr8
    isplitl [Hr9]; · iexact Hr9
    isplitl [Hs0]; · iexact Hs0
    isplitl [Hat0]; · iexact Hat0
    isplitl [Hs1]; · iexact Hs1
    iexact Hat1
  iintro ⟨HO, Hz8, Hhap, Hz9, Hhbp, Hy0, Hx0, Hy1, Hx1⟩
  iapply (part11_step m ρ K c) $$ [HO Hs2 Hat2 Hs3 Hat3 Hs4 Hat4 Hs5 Hat5 Hs6 Hat6]
  · isplitr; · iexact Hrec
    isplitl [HO]; · iexact HO
    isplitl [Hs2]; · iexact Hs2
    isplitl [Hat2]; · iexact Hat2
    isplitl [Hs3]; · iexact Hs3
    isplitl [Hat3]; · iexact Hat3
    isplitl [Hs4]; · iexact Hs4
    isplitl [Hat4]; · iexact Hat4
    isplitl [Hs5]; · iexact Hs5
    isplitl [Hat5]; · iexact Hat5
    isplitl [Hs6]; · iexact Hs6
    iexact Hat6
  iintro ⟨HO, Hy2, Hx2, Hy3, Hx3, Hy4, -, Hy5, -, Hy6, Hqa⟩
  simp only [Prog.lift, pure_bind, Prog.bind_op, Prog.bind_ret, Prog.pure_eq_ret]
  iapply (sent_step m ρ K c 7 rfl rfl) $$ [HO Hs7 Hat7]
  · isplitr; · iexact Hrec
    isplitl [HO]; · iexact HO
    isplitl [Hs7]; · iexact Hs7
    iexact Hat7
  iintro ⟨HO, Hy7, Hqb⟩
  iapply (sent_step m ρ K c 8 rfl rfl) $$ [HO Hs8 Hat8]
  · isplitr; · iexact Hrec
    isplitl [HO]; · iexact HO
    isplitl [Hs8]; · iexact Hs8
    iexact Hat8
  iintro ⟨HO, Hy8, Hha⟩
  iapply (sent_step m ρ K c 9 rfl rfl) $$ [HO Hs9 Hat9]
  · isplitr; · iexact Hrec
    isplitl [HO]; · iexact HO
    isplitl [Hs9]; · iexact Hs9
    iexact Hat9
  iintro ⟨HO, Hy9, Hhb⟩
  unfold WP; rw [wp_ret]; imodintro
  ihave Hx0 := (show sPay m ρ c 0 ⊢ xPart m ρ c 0 from Entails.refl _) $$ Hx0
  ihave Hx1 := (show sPay m ρ c 1 ⊢ xPart m ρ c 1 from Entails.refl _) $$ Hx1
  ihave Hx2 := (show sPay m ρ c 2 ⊢ xPart m ρ c 2 from Entails.refl _) $$ Hx2
  ihave Hx3 := (show sPay m ρ c 3 ⊢ xPart m ρ c 3 from Entails.refl _) $$ Hx3
  ihave Hqa := (show sPay m ρ c 6 ⊢ oPts c (qa c) 256 fullShare.left (fin m ρ) from Entails.refl _) $$ Hqa
  ihave Hqb := (show sPay m ρ c 7 ⊢ oPts c (qb c) 256 fullShare.left (fin m ρ) from Entails.refl _) $$ Hqb
  ihave Hha := (show sPay m ρ c 8 ⊢ oPts c (ha c) 512 fullShare.right (fin m ρ) from Entails.refl _) $$ Hha
  ihave Hhb := (show sPay m ρ c 9 ⊢ oPts c (hb c) 512 fullShare.right (fin m ρ) from Entails.refl _) $$ Hhb
  ihave Hhap := (show rPay m ρ c 8 ⊢ oPts c (hap c) 512 fullShare (fin m ρ) from Entails.refl _) $$ Hhap
  ihave Hhbp := (show rPay m ρ c 9 ⊢ oPts c (hbp c) 512 fullShare (fin m ρ) from Entails.refl _) $$ Hhbp
  iapply Hk
  isplitl [HO]; · iexact HO
  isplitl [Hx Hx0 Hm0 Hx1 Hm1 Hx2 Hm2 Hx3 Hm3]
  · iapply (x_join m ρ c)
    isplitl [Hx]; · iexact Hx
    isplitl [Hx0 Hm0]; · isplitl [Hx0]; · iexact Hx0
                         iexact Hm0
    isplitl [Hx1 Hm1]; · isplitl [Hx1]; · iexact Hx1
                         iexact Hm1
    isplitl [Hx2 Hm2]; · isplitl [Hx2]; · iexact Hx2
                         iexact Hm2
    isplitl [Hx3]; · iexact Hx3
    iexact Hm3
  isplitl [Hqa Hqap Hha Hqb Hqbp Hhb Hhap Hhbp]
  · iapply (o_join c (fin m ρ))
    isplitl [Hqa Hqap Hha]
    · isplitl [Hqa]; · iexact Hqa
      isplitl [Hqap]; · iexact Hqap
      iexact Hha
    isplitl [Hqb Hqbp Hhb]
    · isplitl [Hqb]; · iexact Hqb
      isplitl [Hqbp]; · iexact Hqbp
      iexact Hhb
    isplitl [Hhap]; · iexact Hhap
    iexact Hhbp
  unfold Φ₁ scratches
  rw [sep10, sep10]
  isplitl [Hl0 Hl1 Hl2 Hl3 Ha1 Hb1]
  · isplitl [Hl0 Hl1]
    · iapply (a_join m ρ c)
      isplitl [Hl0] <;> iassumption
    isplitl [Ha1]; · iexact Ha1
    isplitl [Hl2 Hl3]
    · iapply (b_join m ρ c)
      isplitl [Hl2] <;> iassumption
    iexact Hb1
  isplitl [Hzb]; · iexact Hzb
  isplitl [Hy0 Hy1 Hy2 Hy3 Hy4 Hy5 Hy6 Hy7 Hy8 Hy9]
  · isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hy7]; · iexact Hy7
    isplitl [Hy8]; · iexact Hy8
    iexact Hy9
  isplitl [Hz0]; · iexact Hz0
  isplitl [Hz1]; · iexact Hz1
  isplitl [Hz2]; · iexact Hz2
  isplitl [Hz3]; · iexact Hz3
  isplitl [Hz4]; · iexact Hz4
  isplitl [Hz5]; · iexact Hz5
  isplitl [Hz6]; · iexact Hz6
  isplitl [Hz7]; · iexact Hz7
  isplitl [Hz8]; · iexact Hz8
  iexact Hz9

def bodyPost (c : Dev nD) : sProp 𝕄 :=
  iprop(Φ₁ c ∗ (dats m ρ 0 c).owesAt () t0_0.succ ∗ stg c cc0_stg0_0 (xstg m ρ c) ∗ stg c cc0_stg1_0 (outAt m ρ c))
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

theorem sound_body (c : Dev nD) : bodyPre m ρ c ⊢ WP c (cc0_body xM (Memref.isWhole_whole _) oM (Memref.isWhole_whole _) aM (Memref.isWhole_whole _) a1M (Memref.isWhole_whole _)
          bM (Memref.isWhole_whole _) b1M (Memref.isWhole_whole _) cc0_scratch4 cc0_scratch5) (fun _ => bodyPost m ρ c) := by
  unfold bodyPre Φ₀ start ghost credits Dat.owesAt Pipeline.owesWithin
  simp only [sep10]
  rw [show (dats m ρ 0 c).owed t0_0.castSucc = O₀ c from rfl]
  iintro ⟨⟨⟨⟨%K, #Hrec, ⟨Hty, Htx, Ht0, Ht1, Ht2, Ht3, Ht4, Ht5, Ht6, Ht7, Ht8, Ht9⟩, Hatb, ⟨Hat0, Hat1, Hat2, Hat3, Hat4, Hat5, Hat6, Hat7, Hat8, Hat9⟩, Hv0, Hv1, Hv2, Hv3, Hv4, Hv5, Hv6, Hv7, Hv8, Hv9⟩, ⟨Hcb, Hc0, Hc1, Hc2, Hc3, Hc4, Hc5, Hc6, Hc7, Hc8, Hc9⟩, #Hlev⟩, Hscr⟩, ⟨%W, %hW, HO⟩, ⟨%d0, %g0, %hg0, Hx⟩, ⟨%d1, %g1, %hg1, Hout⟩⟩
  have hx : g0 = xstg m ρ c := by rw [hg0]; unfold Dat.before; rw [if_pos (fetch_x t0_0)]; rfl
  subst hx
  iapply (body_run m ρ K c) $$ [HO Hx Hout Hscr Hty Htx Hcb Hatb Ht0 Ht1 Ht2 Ht3 Ht4 Ht5 Ht6 Ht7 Ht8 Ht9 Hc0 Hc1 Hc2 Hc3 Hc4 Hc5 Hc6 Hc7 Hc8 Hc9 Hv0 Hv1 Hv2 Hv3 Hv4 Hv5 Hv6 Hv7 Hv8 Hv9 Hat0 Hat1 Hat2 Hat3 Hat4 Hat5 Hat6 Hat7 Hat8 Hat9]
  · isplitl [HO]
    · isplitr; · iexact Hrec
      isplitr; · iexact Hlev
      unfold owesE; iexists W; iexact HO
    isplitl [Hx]; · iexact Hx
    isplitl [Hout]; · iexists g1; iexact Hout
    isplitl [Hscr]; · iexact Hscr
    isplitl [Hty Htx Hcb Hatb]
    · isplitl [Hty]; · iexact Hty
      isplitl [Htx]; · iexact Htx
      isplitl [Hcb]; · iexact Hcb
      iexact Hatb
    isplitl [Ht0 Ht1 Ht2 Ht3 Ht4 Ht5 Ht6 Ht7 Ht8 Ht9]
    · isplitl [Ht0]; · iexact Ht0
      isplitl [Ht1]; · iexact Ht1
      isplitl [Ht2]; · iexact Ht2
      isplitl [Ht3]; · iexact Ht3
      isplitl [Ht4]; · iexact Ht4
      isplitl [Ht5]; · iexact Ht5
      isplitl [Ht6]; · iexact Ht6
      isplitl [Ht7]; · iexact Ht7
      isplitl [Ht8]; · iexact Ht8
      iexact Ht9
    isplitl [Hc0 Hc1 Hc2 Hc3 Hc4 Hc5 Hc6 Hc7 Hc8 Hc9 Hv0 Hv1 Hv2 Hv3 Hv4 Hv5 Hv6 Hv7 Hv8 Hv9]
    · unfold rx
      isplitl [Hc0 Hv0]; · isplitl [Hc0] <;> iassumption
      isplitl [Hc1 Hv1]; · isplitl [Hc1] <;> iassumption
      isplitl [Hc2 Hv2]; · isplitl [Hc2] <;> iassumption
      isplitl [Hc3 Hv3]; · isplitl [Hc3] <;> iassumption
      isplitl [Hc4 Hv4]; · isplitl [Hc4] <;> iassumption
      isplitl [Hc5 Hv5]; · isplitl [Hc5] <;> iassumption
      isplitl [Hc6 Hv6]; · isplitl [Hc6] <;> iassumption
      isplitl [Hc7 Hv7]; · isplitl [Hc7] <;> iassumption
      isplitl [Hc8 Hv8]; · isplitl [Hc8] <;> iassumption
      isplitl [Hc9] <;> iassumption
    isplitl [Hat0]; · iexact Hat0
    isplitl [Hat1]; · iexact Hat1
    isplitl [Hat2]; · iexact Hat2
    isplitl [Hat3]; · iexact Hat3
    isplitl [Hat4]; · iexact Hat4
    isplitl [Hat5]; · iexact Hat5
    isplitl [Hat6]; · iexact Hat6
    isplitl [Hat7]; · iexact Hat7
    isplitl [Hat8]; · iexact Hat8
    iexact Hat9
  iintro ⟨HO, Hx, Hout, H1⟩
  unfold bodyPost Dat.owesAt Pipeline.owesWithin owesE
  rw [show (dats m ρ 0 c).owed t0_0.succ = 0 from rfl]
  icases HO with ⟨%W', HO⟩
  isplitl [H1]; · iexact H1
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

end Cert.KernelIdeal.Exchange
-- ==== Proof.OnKernelIdeal.Launch.lean ====
/-
The launch: the cells and tokens the run starts from, the step that deals every device the records and the tokens of the
duties it pays, the credit each device starts with, and the run itself.
-/
module

public import proofs.«01_k».proof.Proof.OnKernelIdeal.Body
public import Idealize.ShloMosaic.Lib.Quiescent
public import Idealize.ShloMosaic.Lib.Pipeline.CollectiveSegs

@[expose] public section

noncomputable section

namespace Cert.KernelIdeal.Exchange

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, indexed -/

theorem ownSemFacts : Pipeline.OwnSemFacts cfg0.spec osem := by decide
theorem share_eq (c : Dev nD) (w : Fin cfg0.W) : (dats m ρ 0 c).share w = fullShare := by unfold Dat.share; split <;> rfl

theorem osem_injective : Function.Injective osem := by
  intro i j h; revert i j; decide
theorem csem_injective : Function.Injective csem := by
  intro i j h; revert i j; decide
theorem kcell_injective : Function.Injective kcell := fun x y h =>
  Prod.ext (congrArg (fun g : GSem nD τ sig => g.1.1) h) (csem_injective (congrArg Prod.snd h))

theorem osem_S (k : Fin 10) : osem (finSumFinEquiv (.inl k : Fin 10 ⊕ Fin 10)) = .dma (sS k) := by revert k; decide
theorem osem_R (k : Fin 10) : osem (finSumFinEquiv (.inr k : Fin 10 ⊕ Fin 10)) = .dma (rS k) := by revert k; decide

/-- The twenty own semaphores are the ten send cells and the ten receive cells; -/
theorem sep20 (Φ : SemLoc sig → sProp 𝕄) : (bigSep Finset.univ fun i : Fin 20 => Φ (osem i))
    = iprop((bigSep Finset.univ fun k : Fin 10 => Φ (.dma (sS k))) ∗ bigSep Finset.univ fun k : Fin 10 => Φ (.dma (rS k))) := by
  rw [bigSep_univ_equiv (finSumFinEquiv : Fin 10 ⊕ Fin 10 ≃ Fin 20), bigSep_univ_sum]
  simp only [osem_S, osem_R]; rfl
theorem csem_own (i : Fin 20) : csem (finSumFinEquiv (.inr i : Fin 1 ⊕ Fin 20)) = osem i := by revert i; decide
theorem csem_bar (i : Fin 1) : csem (finSumFinEquiv (.inl i : Fin 1 ⊕ Fin 20)) = .reg barS := by revert i; decide
/-- a device's cells the barrier cell and these. -/
theorem sep21 (Φ : SemLoc sig → sProp 𝕄) : (bigSep Finset.univ fun j : Fin 21 => Φ (csem j))
    = iprop(Φ (.reg barS) ∗ (bigSep Finset.univ fun k : Fin 10 => Φ (.dma (sS k))) ∗ bigSep Finset.univ fun k : Fin 10 => Φ (.dma (rS k))) := by
  rw [bigSep_univ_equiv (finSumFinEquiv : Fin 1 ⊕ Fin 20 ≃ Fin 21), bigSep_univ_sum]
  simp only [csem_own, csem_bar]
  rw [bigSep_univ_of_subsingleton (0 : Fin 1), sep20]; rfl

/-- A device's own duty tokens as minted: its barrier's two, and its twenty own cells' one each. -/
abbrev tokOf (ci : Dev nD × (Bool ⊕ Fin 20)) : GSem nD τ sig × ℕ × Bool := match ci.2 with
  | .inl d => (bcell ci.1, 0, d)
  | .inr i => (((ci.1 : Thread nD τ), osem i), 0, false)
theorem tokOf_injective : Function.Injective tokOf := by
  rintro ⟨c, i⟩ ⟨c', i'⟩ h
  have h1 : c = c' := by
    have := congrArg (fun x : GSem nD τ sig × ℕ × Bool => x.1.1.1) h
    cases i <;> cases i' <;> exact this
  have h2 := congrArg (fun x : GSem nD τ sig × ℕ × Bool => (x.1.2, x.2.2)) h
  subst h1
  refine congrArg (Prod.mk c) ?_
  cases i <;> cases i'
  · exact congrArg Sum.inl (congrArg Prod.snd h2)
  · cases congrArg Prod.fst h2
  · cases congrArg Prod.fst h2
  · exact congrArg Sum.inr (osem_injective (congrArg Prod.fst h2))

def cells₀ : Finset (GSem nD τ sig) := Finset.univ.map ⟨kcell, kcell_injective⟩
def toks₀ : Finset (GSem nD τ sig × ℕ × Bool) := Finset.univ.map ⟨tokOf, tokOf_injective⟩
def u₀ : UU := (initOf (Pipeline.cells cfgs cellOf_inj) (Pipeline.launchToks cfgs cellOf_inj), initOf cells₀ toks₀)

/-- The duty tokens of device `c`'s own cells. -/
def toks (c : Dev nD) : sProp 𝕄 :=
  iprop((dutyTok ER (bcell c) 0 false ∗ dutyTok ER (bcell c) 0 true)
    ∗ (bigSep Finset.univ fun k : Fin 10 => dutyTok ER (scell c k) 0 false) ∗ bigSep Finset.univ fun k : Fin 10 => dutyTok ER (rcell c k) 0 false)
/-- The tokens of the duties device `c` pays. -/
def pays (c : Dev nD) : sProp 𝕄 :=
  iprop(dutyTok ER (bcell (yN c)) 0 false ∗ dutyTok ER (bcell (xN c)) 0 true ∗ bigSep Finset.univ fun k : Fin 10 => tx c k)
/-- A cell at launch. -/
def fresh (cj : Dev nD × Fin 21) : sProp 𝕄 :=
  iprop(roundState ER (Rd m ρ) (kcell cj) 0 ∗ atPos ER (kcell cj) 0 ∅ 0 ∗ reached ER (kcell cj) 0)
def G (c : Dev nD) : sProp 𝕄 := iprop((bigSep Finset.univ fun j : Fin 21 => fresh m ρ (c, j)) ∗ toks c)
def G' (c : Dev nD) : sProp 𝕄 := iprop(∃ K, ghost m ρ K c)

theorem fund_cells : BI.own (ER (initOf cells₀ toks₀)) ⊢ (|==> bigSep Finset.univ (G m ρ) : sProp 𝕄) := by
  have hc (Φ : GSem nD τ sig → sProp 𝕄) : bigSep cells₀ Φ = bigSep Finset.univ fun c : Dev nD => bigSep Finset.univ fun j : Fin 21 => Φ (kcell (c, j)) := by
    unfold cells₀; rw [bigSep_map, bigSep_univ_prod]; rfl
  have ht : bigSep toks₀ (fun x => (dutyTok ER x.1 x.2.1 x.2.2 : sProp 𝕄)) = bigSep Finset.univ fun c : Dev nD => toks c := by
    unfold toks₀; rw [bigSep_map, bigSep_univ_prod]
    refine bigSep_congr fun c _ => ?_
    rw [bigSep_univ_sum, bigSep_univ_eq_bigSepL [false, true] (by decide) (by decide)]
    unfold toks
    rw [← sep20 (fun s => dutyTok ER ((c : Thread nD τ), s) 0 false)]
    rfl
  iintro H
  imod (Rounds.fund ER (Rd m ρ) cells₀ toks₀) $$ H with ⟨Hst, Hr, Hat, Htok⟩
  imodintro
  ihave Hst := (Entails.of_eq (hc fun g => roundState ER (Rd m ρ) g 0)) $$ Hst
  ihave Hat := (Entails.of_eq (hc fun g => atPos ER g 0 ∅ 0)) $$ Hat
  ihave Hr := (Entails.of_eq (hc fun g => reached ER g 0)) $$ Hr
  ihave Htok := (Entails.of_eq ht) $$ Htok
  unfold G fresh; simp only [bigSep_sep']
  isplitr [Htok]
  · isplitl [Hst]; · iexact Hst
    isplitl [Hat] <;> iassumption
  iexact Htok

/-! ## The semaphores at zero -/

theorem ownSems0_eq (c : Dev nD) : (Pipeline.ownSems0 (Ix := Unit) (Name := ℕ) (U := UU) (Lvl := ℕ) (Val := Elt F) (τ := τ) osem c : sProp 𝕄)
    = iprop((bigSep Finset.univ fun k : Fin 10 => semVal (scell c k) 0) ∗ bigSep Finset.univ fun k : Fin 10 => semVal (rcell c k) 0) := by
  unfold Pipeline.ownSems0; exact sep20 fun s => semVal ((c : Thread nD τ), s) 0
theorem unscopedSems0_eq (c : Dev nD) : (unscopedSems0 c : sProp 𝕄) = semVal (bcell c) 0 := by
  unfold unscopedSems0; rw [bigSep_eq_bigSepL_of_eq [SemLoc.reg barS] (by decide) (by decide)]; rfl
theorem sems_all (c : Dev nD) :
    iprop(Pipeline.ownSems0 (Ix := Unit) (Name := ℕ) (U := UU) (Lvl := ℕ) (Val := Elt F) (τ := τ) osem c ∗ unscopedSems0 c)
      ⊢ (bigSep Finset.univ fun j : Fin 21 => semVal (kcell (c, j)) 0 : sProp 𝕄) := by
  rw [show (bigSep Finset.univ fun j : Fin 21 => semVal (kcell (c, j)) 0 : sProp 𝕄) = _ from sep21 fun s => semVal ((c : Thread nD τ), s) 0,
    ownSems0_eq, unscopedSems0_eq]
  iintro ⟨Ho, Hb⟩
  isplitl [Hb] <;> iassumption

/-! ## The deal -/

/-- A cell opened: its invariant under some name, and its position. -/
def opened (cj : Dev nD × Fin 21) : sProp 𝕄 :=
  iprop((∃ κ : ℕ, cellInv ER (Rd m ρ) κ (kcell cj) ∗ reached ER (kcell cj) 0) ∗ atPos ER (kcell cj) 0 ∅ 0)

theorem cell_open (cj : Dev nD × Fin 21) : iprop(semVal (kcell cj) 0 ∗ fresh m ρ cj) ⊢ |={Set.univ}=> opened m ρ cj := by
  unfold fresh opened
  iintro ⟨Hv, Hst, Hat, #Hr⟩
  imod (show iprop(semVal (kcell cj) 0 ∗ roundState ER (Rd m ρ) (kcell cj) 0) ⊢ |={Set.univ}=> iprop(∃ κ : ℕ, cellInv ER (Rd m ρ) κ (kcell cj)) from
    (Rounds.body_intro ER (Rd m ρ) (kcell cj)).trans inv_alloc) $$ [Hv Hst] with ⟨%κ, Hi⟩
  · isplitl [Hv] <;> iassumption
  imodintro
  isplitl [Hi]
  · iexists κ
    isplitl [Hi]; · iexact Hi
    iexact Hr
  iexact Hat

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun j : Fin 21 => opened m ρ (c, j)) ∗ toks c) := by
  unfold G
  iintro ⟨Ho, Hu, Hf, Ht⟩
  ihave Hv := (sems_all (F := F) c) $$ [Ho Hu]
  · isplitl [Ho] <;> iassumption
  imod (show iprop((bigSep Finset.univ fun j : Fin 21 => semVal (kcell (c, j)) 0) ∗ bigSep Finset.univ fun j : Fin 21 => fresh m ρ (c, j))
      ⊢ |={Set.univ}=> bigSep Finset.univ fun j : Fin 21 => opened m ρ (c, j) from by
        rw [← bigSep_sep']; exact (bigSep_mono fun j _ => cell_open m ρ (c, j)).trans (bigSep_fupd _ _)) $$ [Hv Hf] with H
  · isplitl [Hv] <;> iassumption
  imodintro
  isplitl [H] <;> iassumption

def yE : Dev nD ≃ Dev nD := ⟨yN, yN, yN_yN, yN_yN⟩
def xE : Dev nD ≃ Dev nD := ⟨xN, xN, xN_xN, xN_xN⟩
def peerE (k : Fin 10) : Dev nD ≃ Dev nD := ⟨peer k, peer k, peer_peer k, peer_peer k⟩

/-- Every token goes to the device that pays it: the neighbour a barrier duty names, the peer of a receive cell. -/
theorem toks_dealt : (bigSep Finset.univ fun c : Dev nD => (toks c : sProp 𝕄)) ⊢ bigSep Finset.univ fun c : Dev nD => pays c := by
  have hr : (bigSep Finset.univ fun c : Dev nD => bigSep Finset.univ fun k : Fin 10 => (dutyTok ER (rcell c k) 0 false : sProp 𝕄))
      = bigSep Finset.univ fun c : Dev nD => bigSep Finset.univ fun k : Fin 10 => dutyTok ER (rcell (peer k c) k) 0 false := by
    rw [bigSep_univ_comm, bigSep_univ_comm (fun c k => (dutyTok ER (rcell (peer k c) k) 0 false : sProp 𝕄))]
    exact bigSep_congr fun k _ => bigSep_univ_equiv (peerE k) fun c : Dev nD => (dutyTok ER (rcell c k) 0 false : sProp 𝕄)
  unfold toks pays tx
  simp only [bigSep_sep']
  rw [hr, bigSep_univ_equiv yE (fun c : Dev nD => (dutyTok ER (bcell c) 0 false : sProp 𝕄)),
    bigSep_univ_equiv xE (fun c : Dev nD => (dutyTok ER (bcell c) 0 true : sProp 𝕄))]
  iintro ⟨⟨H1, H2⟩, H3, H4⟩
  isplitl [H1]; · iexact H1
  isplitl [H2]; · iexact H2
  isplitl [H3] <;> iassumption

theorem deal (K : Dev nD × Fin 21 → ℕ) (c : Dev nD) :
    iprop(records m ρ K ∗ ((bigSep Finset.univ fun j : Fin 21 => atPos ER (kcell (c, j)) 0 ∅ 0) ∗ pays c)) ⊢ G' m ρ c := by
  rw [show (bigSep Finset.univ fun j : Fin 21 => atPos ER (kcell (c, j)) 0 ∅ 0 : sProp 𝕄) = _ from sep21 fun s => atPos ER ((c : Thread nD τ), s) 0 ∅ 0]
  unfold G' ghost pays
  iintro ⟨HR, ⟨Hb, Hs, Hr⟩, Hp⟩
  iexists K
  isplitl [HR]; · iexact HR
  isplitl [Hp]; · iexact Hp
  isplitl [Hb]; · iexact Hb
  isplitl [Hs] <;> iassumption

theorem regroup : (bigSep Finset.univ fun c : Dev nD => iprop((bigSep Finset.univ fun j : Fin 21 => opened m ρ (c, j)) ∗ toks c))
    ⊢ bigSep Finset.univ (G' m ρ) := by
  unfold opened
  simp only [bigSep_sep']
  rw [← bigSep_univ_prod (fun cj : Dev nD × Fin 21 => iprop(∃ κ : ℕ, cellInv ER (Rd m ρ) κ (kcell cj) ∗ reached ER (kcell cj) 0))]
  iintro ⟨⟨HI, Hat⟩, Ht⟩
  ihave HK := (BI.bigSep_exists_pi Finset.univ (fun (cj : Dev nD × Fin 21) (κ : ℕ) => (iprop(cellInv ER (Rd m ρ) κ (kcell cj) ∗ reached ER (kcell cj) 0) : sProp 𝕄))) $$ HI
  icases HK with ⟨%K, HI⟩
  ihave Hp := (toks_dealt (F := F)) $$ Ht
  iapply (BI.bigSep_with_persistent (R := records m ρ K) fun c _ => deal m ρ K c)
  isplitl [HI]
  · unfold records; simp only [bigSep_sep']; iexact HI
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem rsem_injective : Function.Injective fun k : Fin 10 => (SemLoc.dma (rS k) : SemLoc sig) := by
  intro j k h; revert j k; decide
theorem rcell_inj {a b : Dev nD} {j k : Fin 10} (h : rcell a j = rcell b k) : a = b ∧ j = k :=
  ⟨congrArg (fun g : GSem nD τ sig => g.1.1) h, rsem_injective (congrArg Prod.snd h)⟩
theorem bcell_inj {a b : Dev nD} (h : bcell a = bcell b) : a = b := congrArg (fun g : GSem nD τ sig => g.1.1) h
theorem rcell_ne_bcell {a b : Dev nD} {k : Fin 10} : rcell a k ≠ bcell b := fun h => by cases congrArg Prod.snd h

theorem bar_at {σ : Dev nD → Dev nD} (hσ : ∀ c, σ (σ c) = c) (d c : Dev nD) :
    tallyAt (bcell (σ d)) () 1 (bcell c) () = if d = σ c then 1 else 0 := by
  rw [tallyAt_apply]
  refine if_congr ⟨fun h => ?_, fun h => ?_⟩ rfl rfl
  · rw [bcell_inj h.1, hσ]
  · rw [h, hσ]; exact ⟨rfl, rfl⟩

theorem owe_bar (d c : Dev nD) (ks : List (Fin 10)) : owe d ks (bcell c) () = 0 := by
  induction ks with
  | nil => rfl
  | cons k ks ih =>
    show owe d ks (bcell c) () + tallyAt (rcell (peer k d) k) () (amt k) (bcell c) () = 0
    rw [ih, tallyAt_ne_cell (fun h => rcell_ne_bcell h.symm)]; rfl

theorem owe_recv (d c : Dev nD) (k : Fin 10) (ks : List (Fin 10)) :
    owe d ks (rcell c k) () = if d = peer k c then ks.count k * amt k else 0 := by
  induction ks with
  | nil => show 0 = _; rw [List.count_nil, Nat.zero_mul, ite_self]
  | cons j ks ih =>
    show owe d ks (rcell c k) () + tallyAt (rcell (peer j d) j) () (amt j) (rcell c k) () = _
    rw [ih, tallyAt_apply]
    by_cases hj : j = k
    · subst hj
      rw [List.count_cons_self]
      by_cases hd : d = peer j c
      · rw [if_pos hd, if_pos hd, if_pos ⟨by rw [hd, peer_peer], rfl⟩, Nat.succ_mul]
      · rw [if_neg hd, if_neg hd, if_neg (fun h => hd (by rw [(rcell_inj h.1).1, peer_peer]))]
    · rw [List.count_cons_of_ne hj, if_neg (c := rcell c k = rcell (peer j d) j ∧ () = ()) (fun h => hj (rcell_inj h.1).2.symm), Nat.add_zero]

theorem O₀_bar (d c : Dev nD) : O₀ d (bcell c) () = (if d = xN c then 1 else 0) + (if d = yN c then 1 else 0) := by
  show owe d _ (bcell c) () + tallyAt (bcell (xN d)) () 1 (bcell c) () + tallyAt (bcell (yN d)) () 1 (bcell c) () = _
  rw [owe_bar, bar_at xN_xN, bar_at yN_yN, Nat.zero_add]

theorem O₀_recv (d c : Dev nD) (k : Fin 10) : O₀ d (rcell c k) () = if d = peer k c then amt k else 0 := by
  show owe d _ (rcell c k) () + tallyAt (bcell (xN d)) () 1 (rcell c k) () + tallyAt (bcell (yN d)) () 1 (rcell c k) () = _
  rw [owe_recv, tallyAt_ne_cell rcell_ne_bcell, tallyAt_ne_cell rcell_ne_bcell,
    show ([0, 1, 2, 3, 4, 5, 6, 7, 8, 9] : List (Fin 10)).count k = 1 by revert k; decide, Nat.one_mul]
  rfl

theorem launch_bar (c : Dev nD) :
    tallyOn (bcell c) (launchCredit (Pipeline.owing O₀) 0 (bcell c)) = (tallyAt (bcell c) () 2 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib,
    Finset.sum_ite_eq' Finset.univ (xN c) fun _ => 1, Finset.sum_ite_eq' Finset.univ (yN c) fun _ => 1, if_pos (Finset.mem_univ _), if_pos (Finset.mem_univ _)]

theorem launch_recv (c : Dev nD) (k : Fin 10) :
    tallyOn (rcell c k) (launchCredit (Pipeline.owing O₀) 0 (rcell c k)) = (tallyAt (rcell c k) () (amt k) : CellTallies nD τ sig Unit) := by
  unfold tallyAt; refine congrArg _ (Finsupp.ext fun u => ?_); cases u
  rw [Pipeline.launchCredit_owing, Finsupp.single_eq_same, Finset.sum_congr rfl fun d _ => O₀_recv d c k,
    Finset.sum_ite_eq' Finset.univ (peer k c) fun _ => amt k, if_pos (Finset.mem_univ _)]

theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := Finset.univ.map ⟨_, rsem_injective⟩) fun s hs => ?_).trans ?_
  · obtain ⟨k, _, rfl⟩ := Finset.mem_map.mp hs
    exact Finset.mem_erase.mpr ⟨(fun h => by cases h), Finset.mem_univ _⟩
  · rw [bigSep_map]
    exact bigSep_mono fun k _ => Entails.of_eq (congrArg cred (launch_recv c k))

/-! ## Into the region and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratches
  iintro ⟨Hr, Hb, Hs⟩
  isplitl [Hb]; · iexact Hb
  isplitl [Hs] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds in the end. -/
def endA (c : Dev nD) (w : Fin cfg0.W) : Buf (Elt F) ((cfg0.win w).arr.view.loc (c : Thread nD τ)) := (dats m ρ 0 c).arrAt w cfg0.N

set_option maxRecDepth 8000 in
/-- From any memory with zero counters every run of the four devices ends, each device's arrays at what the pipeline's
    data say and every counter at zero. -/
theorem run_main : θ_run defs (onTc (τ := τ) (main (F := F))) (s₀ m ρ)
    (fun r => (∀ (c : Dev nD) (w : Fin cfg0.W), r.2.mem ((cfg0.win w).arr.view.loc (c : Thread nD τ)) = endA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument ends as it was; -/
theorem endA_x (c : Dev nD) : endA m ρ c (0 : Fin 2) = m ((c : Thread nD τ).loc main_arg0) :=
  (dats (F := F) m ρ 0 c).arrAt_in (0 : Fin 2) rfl _

/-- the result ends as the table of sums. -/
theorem endA_o (c : Dev nD) : endA m ρ c (1 : Fin 2) = (tab (fin m ρ) : S2048x1024.Idx → F .f32) := by
  have hz : (fun a => (win0_1.index t0_0) a * main_v1.ty.shape.size a) = fun _ => 0 := funext fun a => by fin_cases a <;> decide
  have hr := fun f => Memref.read_access_unit_zero (Elt F) main_v1 hz (fun a => by fin_cases a <;> decide) f
  have ho : (win0_1.blk t0_0).view.read (Elt F) (endA m ρ c (1 : Fin 2)) = outAt m ρ c := by
    unfold endA
    rw [show cfg0.N = (t0_0 : Fin cfg0.N).val + 1 from rfl, (dats m ρ 0 c).arrAt_succ (1 : Fin 2) t0_0,
      show (cfg0.win (1 : Fin 2)).flush t0_0 = true from by decide, if_pos rfl]
    exact View.read_write_univ _ _
  exact (hr _).symm.trans ho

end Cert.KernelIdeal.Exchange
-- ==== Proof.Value.lean ====
/-
The value at the extended reals: the table of sums that every device ends with is the sum of the four devices' blocks,
and so is the reference's sum over the two leading axes of the whole array.
-/
module

public import proofs.«01_k».proof.Defs
public import proofs.«01_k».proof.Proof.OnKernelIdeal.Launch
public import proofs.«01_k».proof.Proof.Gen.ReferenceIdeal.Run
public import Idealize.ShloMosaic.Lib.IdealHost
public import Idealize.ShloMosaic.Lib.Pointwise.Reduce

@[expose] public section

noncomputable section

namespace Cert.KernelIdeal.Exchange

open Cert.KernelIdeal Cert.KernelIdeal.Gen
open Idealize.ShloMosaic
open Idealize.ShloMosaic.TcCoe
open Idealize.ShloMosaic.ValueIdx hiding ix4

variable (m : (ℓ : Loc nD τ sig) → Buf (Elt Ideal) ℓ) (ρ : Dev nD → PrngReg)

/-! ## The kernel's sum -/

/-- Whichever device adds, and whichever neighbour it adds first, the four terms are the same. -/
theorem sum_y (g : Dev nD → EReal) (o : Dev nD) : (g o + g (yN o)) + (g (xN o) + g (yN (xN o))) = ∑ c, g c := by
  rw [Fin.sum_univ_four]
  fin_cases o
  · show (g 0 + g 1) + (g 2 + g 3) = _; abel
  · show (g 1 + g 0) + (g 3 + g 2) = _; abel
  · show (g 2 + g 3) + (g 0 + g 1) = _; abel
  · show (g 3 + g 2) + (g 1 + g 0) = _; abel
theorem sum_x (g : Dev nD → EReal) (o : Dev nD) : (g o + g (xN o)) + (g (yN o) + g (xN (yN o))) = ∑ c, g c := by
  rw [← sum_y g o, ← xN_yN]; exact add_add_add_comm _ _ _ _

theorem fin_eq (r l : ℕ) : fin m ρ r l = ∑ c : Dev nD, (xr m ρ c r l : EReal) := by
  unfold fin part
  split
  · exact sum_y (fun c => xr m ρ c r l) (ownr r)
  · exact sum_x (fun c => xr m ρ c r l) (ownr r)

/-! ## The blocks of the whole array -/

/-- The devices as pairs of mesh coordinates, the second the faster. -/
def leading : Fin 2 × Fin 2 ≃ Dev nD := finProdFinEquiv

/-- They are the coordinates that name a device's block of the whole array: -/
theorem leading_fst : ∀ c : Dev nD, Layout.meshLin [2, 2] c.val [0] * 1 + 0 = (leading.symm c).1.val := by decide

/-- on either axis. -/
theorem leading_snd : ∀ c : Dev nD, Layout.meshLin [2, 2] c.val [1] * 1 + 0 = (leading.symm c).2.val := by decide

/-- A device's block as the region finds it is its argument; -/
theorem xstg_eq (c : Dev nD) : xstg m ρ c = m ((c : Thread nD τ).loc main_arg0) := by
  have hz : (fun a => (win0_0.index t0_0) a * main_arg0.ty.shape.size a) = fun _ => 0 := funext fun a => by fin_cases a <;> decide
  exact Memref.read_access_unit_zero (Elt Ideal) main_arg0 hz (fun a => by fin_cases a <;> decide) _

/-- device `c`'s entry at row `r`, column `l` is the whole array's at block `(c / 2, c % 2)`. -/
theorem xr_block (X : Cert.ReferenceIdeal.S2x2x2048x1024.Idx → EReal) (c : Dev nD)
    (h : m ((c : Thread nD τ).loc main_arg0)
      = Layout.blockN ⟨4, ![1, 1, 2048, 1024]⟩ ⟨4, ![2, 2, 2048, 1024]⟩ (Layout.meshBlock [2, 2] ![[0], [1], [], []] c) X)
    (r : Fin 2048) (l : Fin 1024) :
    (xr m ρ c r.val l.val : EReal) = X (ix4 (leading.symm c).1 (leading.symm c).2 r l) := by
  unfold xr
  rw [xstg_eq, h]
  refine congrArg X (funext fun a => Fin.ext ?_)
  match a with
  | ⟨0, _⟩ => exact leading_fst c
  | ⟨1, _⟩ => exact leading_snd c
  | ⟨2, _⟩ => show 0 * 2048 + r.val % 2048 = r.val; rw [Nat.zero_mul, Nat.zero_add, Nat.mod_eq_of_lt r.isLt]
  | ⟨3, _⟩ => show 0 * 1024 + l.val % 1024 = l.val; rw [Nat.zero_mul, Nat.zero_add, Nat.mod_eq_of_lt l.isLt]

/-! ## The reference's sum -/

/-- The indices that the reference sums at `j`: one per pair of leading coordinates. -/
theorem fiber (h : Cert.ReferenceIdeal.S2x2x2048x1024.ReducesTo [0, 1] S2048x1024) (j : S2048x1024.Idx)
    (i : Cert.ReferenceIdeal.S2x2x2048x1024.Idx) :
    h.drop i = j ↔ ∃ k : Fin 2 × Fin 2, (ix4 k.1 k.2 (j 0) (j 1) : Cert.ReferenceIdeal.S2x2x2048x1024.Idx) = i := by
  constructor
  · rintro rfl
    refine ⟨(i 0, i 1), funext fun a => ?_⟩
    match a with
    | ⟨0, _⟩ => rfl
    | ⟨1, _⟩ => rfl
    | ⟨2, _⟩ => rfl
    | ⟨3, _⟩ => rfl
  · rintro ⟨k, rfl⟩
    funext b
    match b with
    | ⟨0, _⟩ => rfl
    | ⟨1, _⟩ => rfl

theorem ref_eq (X : Cert.ReferenceIdeal.S2x2x2048x1024.Idx → EReal)
    (h : Cert.ReferenceIdeal.S2x2x2048x1024.ReducesTo [0, 1] S2048x1024) (hu : 0 < Cert.ReferenceIdeal.S_.numel) (j : S2048x1024.Idx) :
    Host.reduceAdd (F := Ideal) (φ := .f32) X (constant Cert.ReferenceIdeal.S_ .f32 0x00000000#32) h hu j
      = ∑ k : Fin 2 × Fin 2, X (ix4 k.1 k.2 (j 0) (j 1)) := by
  rw [hostReduceAdd_apply]
  unfold Ideal.hostReduceAdd
  rw [Finset.sum_filter_eq_sum_of_fiber _ (fun k : Fin 2 × Fin 2 => (ix4 k.1 k.2 (j 0) (j 1) : Cert.ReferenceIdeal.S2x2x2048x1024.Idx))
    (fun _ _ e => Prod.ext (congrFun e 0) (congrFun e 1)) (fiber h j) X]
  show Ideal.ofBits .f32 0x00000000#32 + _ = _
  rw [Ideal.ofBits_zero_f32, zero_add]

/-- The two agree. -/
theorem value (X : Cert.ReferenceIdeal.S2x2x2048x1024.Idx → EReal)
    (hX : ∀ c : Dev nD, m ((c : Thread nD τ).loc main_arg0)
      = Layout.blockN ⟨4, ![1, 1, 2048, 1024]⟩ ⟨4, ![2, 2, 2048, 1024]⟩ (Layout.meshBlock [2, 2] ![[0], [1], [], []] c) X)
    (h : Cert.ReferenceIdeal.S2x2x2048x1024.ReducesTo [0, 1] S2048x1024) (hu : 0 < Cert.ReferenceIdeal.S_.numel) :
    (tab (fin m ρ) : S2048x1024.Idx → EReal)
      = Host.reduceAdd (F := Ideal) (φ := .f32) X (constant Cert.ReferenceIdeal.S_ .f32 0x00000000#32) h hu := by
  funext j
  rw [ref_eq]
  show fin m ρ (j 0).val (j 1).val = _
  rw [fin_eq, ← leading.sum_comp]
  refine Finset.sum_congr rfl fun k _ => ?_
  have e := xr_block m ρ X (leading k) (hX _) (j 0) (j 1)
  rw [leading.symm_apply_apply] at e
  exact e

end Cert.KernelIdeal.Exchange
-- ==== Proof.lean ====
/-
The proof of `Cert.Claim`: the kernel and its reference end with every argument unchanged and every semaphore counter at
zero, and at the extended reals every device's result is the reference's.

`Proof/OnKernel` and `Proof/OnKernelIdeal` are one proof for any float values, over the two printings of the program:
the places on the mesh and the bands of rows (`Geometry`), the protocol (`Schedule`), one rule per kind of step
(`Steps`), the offsets and sums the body computes (`Values`), the body's parts (`Parts`), the whole body (`Body`) and
the launch (`Launch`). `Proof/Value` reads the result at the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.OnKernel.Launch
public import proofs.«01_k».proof.Proof.OnKernelIdeal.Launch
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The kernel, over machine floats: every run ends, the argument is unchanged and every counter is zero. -/
theorem quiescent_kernel : Cert.quiescent_Kernel (hKernel := Cert.Kernel.Gen.facts) := fun m ρ _ =>
  (θ_run Cert.Kernel.defs _ _).mono (fun _ h => ⟨fun c => (h.1 c (0 : Fin 2)).trans (Cert.Kernel.Exchange.endA_x m ρ c), h.2⟩)
    (Cert.Kernel.Exchange.run_main (F := Bits) m ρ)

/-- The same of the kernel over the extended reals. -/
theorem quiescent_kernelIdeal : Cert.quiescent_KernelIdeal (hKernelIdeal := Cert.KernelIdeal.Gen.facts) := fun m ρ _ =>
  (θ_run Cert.KernelIdeal.defs _ _).mono (fun _ h => ⟨fun c => (h.1 c (0 : Fin 2)).trans (Cert.KernelIdeal.Exchange.endA_x m ρ c), h.2⟩)
    (Cert.KernelIdeal.Exchange.run_main (F := Ideal) m ρ)

/-- The same of the reference. -/
theorem quiescent_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

/-- Every device's result is the reference's sum over the four blocks. -/
theorem algebraic : Cert.algebraic_KernelIdeal_ReferenceIdeal (hKernelIdeal := Cert.KernelIdeal.Gen.facts)
    (hReferenceIdeal := Cert.ReferenceIdeal.Gen.facts) := fun m g m' g' _ hX =>
  ⟨_, (θ_run Cert.KernelIdeal.defs _ _).mono (fun _ h c =>
      ⟨((h.1 c (1 : Fin 2)).trans (Cert.KernelIdeal.Exchange.endA_o m g c)).trans
          (Cert.KernelIdeal.Exchange.value m g _ hX Cert.ReferenceIdeal.Gen.reducesTo_S2x2x2048x1024_S2048x1024_d0_1 Cert.ReferenceIdeal.Gen.h_S_),
        (h.1 c (0 : Fin 2)).trans (Cert.KernelIdeal.Exchange.endA_x m g c)⟩)
      (Cert.KernelIdeal.Exchange.run_main (F := Ideal) m g),
    (θ_run Cert.ReferenceIdeal.defs _ _).mono (fun _ h => h 0) (Cert.ReferenceIdeal.Value.run (F := Ideal) m' g')⟩

/-- The five claims together. -/
theorem claim : Cert.Claim := ⟨Cert.Kernel.Gen.facts, Cert.KernelIdeal.Gen.facts, Cert.ReferenceIdeal.Gen.facts,
  quiescent_kernel, quiescent_kernelIdeal, quiescent_reference, trivial, algebraic⟩

end Cert.Proof

end
